-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_in_range [hPre_scores_in_range : Cert.Pre_scores_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_in_range [hPre_scores_in_range : Cert.Pre_scores_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_scores_in_range [hKernelIdeal : Cert.KernelIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_scores_in_range [hReferenceIdeal : Cert.ReferenceIdeal.Facts] [hPre_scores_in_range : Cert.Pre_scores_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "log2e_over_8" .f32 0x3E38AA3B#32 (((1 / 8) * (Real.log 2)⁻¹ : ℝ) : EReal)

def algebraic_KernelIdeal_ReferenceIdeal_pre_scores_in_range [hKernelIdeal : Cert.KernelIdeal.Facts] [hReferenceIdeal : Cert.ReferenceIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_scores_in_range : Cert.Pre_scores_in_range.Facts),
    quiescent_Kernel (hKernel := hKernel)
    ∧ quiescent_KernelIdeal (hKernelIdeal := hKernelIdeal)
    ∧ quiescent_KernelIdeal_pre_scores_in_range (hKernelIdeal := hKernelIdeal) (hPre_scores_in_range := hPre_scores_in_range)
    ∧ quiescent_ReferenceIdeal (hReferenceIdeal := hReferenceIdeal)
    ∧ quiescent_ReferenceIdeal_pre_scores_in_range (hReferenceIdeal := hReferenceIdeal) (hPre_scores_in_range := hPre_scores_in_range)
    ∧ preserves_Kernel_KernelIdeal
    ∧ algebraic_KernelIdeal_ReferenceIdeal_pre_scores_in_range (hKernelIdeal := hKernelIdeal) (hReferenceIdeal := hReferenceIdeal) (hPre_scores_in_range := hPre_scores_in_range)
-- ==== Pre_scores_in_range.lean ====
abbrev S1x2048x1024 : Shape := ⟨3, ![1, 2048, 1024]⟩
abbrev S1x2048 : Shape := ⟨2, ![1, 2048]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S32 : Shape := ⟨1, ![32]⟩
abbrev S1x1x32 : Shape := ⟨3, ![1, 1, 32]⟩
abbrev S1x2048x32 : Shape := ⟨3, ![1, 2048, 32]⟩
abbrev S1x1x2048x32 : Shape := ⟨4, ![1, 1, 2048, 32]⟩
abbrev S1x16x2048x32 : Shape := ⟨4, ![1, 16, 2048, 32]⟩
abbrev S1x16x2048x2048 : Shape := ⟨4, ![1, 16, 2048, 2048]⟩

class Facts : Prop where
  reducesTo_S1x2048x1024_S1x2048_d2 : S1x2048x1024.ReducesTo [2] S1x2048
  h_S_ : 0 < S_.numel
  bcast_S1x2048_S1x2048x1_0_1 : S1x2048.BroadcastsInDim S1x2048x1 (![0, 1] : Fin 2 → Fin S1x2048x1.rank)
  bcast_S_S1x2048x1 : S_.BroadcastsInDim S1x2048x1 (![] : Fin 0 → Fin S1x2048x1.rank)
  bcast_S1x2048x1_S1x2048x1024_0_1_2 : S1x2048x1.BroadcastsInDim S1x2048x1024 (![0, 1, 2] : Fin 3 → Fin S1x2048x1024.rank)
  bcast_S1024_S1x1x1024_2 : S1024.BroadcastsInDim S1x1x1024 (![2] : Fin 1 → Fin S1x1x1024.rank)
  bcast_S1x1x1024_S1x2048x1024_0_1_2 : S1x1x1024.BroadcastsInDim S1x2048x1024 (![0, 1, 2] : Fin 3 → Fin S1x2048x1024.rank)
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  bcast_S_S32 : S_.BroadcastsInDim S32 (![] : Fin 0 → Fin S32.rank)
  bcast_S32_S1x1x32_2 : S32.BroadcastsInDim S1x1x32 (![2] : Fin 1 → Fin S1x1x32.rank)
  bcast_S1x2048x1_S1x2048x32_0_1_2 : S1x2048x1.BroadcastsInDim S1x2048x32 (![0, 1, 2] : Fin 3 → Fin S1x2048x32.rank)
  bcast_S1x1x32_S1x2048x32_0_1_2 : S1x1x32.BroadcastsInDim S1x2048x32 (![0, 1, 2] : Fin 3 → Fin S1x2048x32.rank)
  bcast_S1x2048x32_S1x1x2048x32_0_2_3 : S1x2048x32.BroadcastsInDim S1x1x2048x32 (![0, 2, 3] : Fin 3 → Fin S1x1x2048x32.rank)
  slices_S1x16x2048x64_S1x16x2048x32_0_0_0_0 : S1x16x2048x64.Slices ![0, 0, 0, 0] S1x16x2048x32
  slices_S1x16x2048x64_S1x16x2048x32_0_0_0_32 : S1x16x2048x64.Slices ![0, 0, 0, 32] S1x16x2048x32
  bcast_S1x1x2048x32_S1x16x2048x32_0_1_2_3 : S1x1x2048x32.BroadcastsInDim S1x16x2048x32 (![0, 1, 2, 3] : Fin 4 → Fin S1x16x2048x32.rank)
  concatenates_S1x16x2048x32_S1x16x2048x32_S1x16x2048x64_d3 : Shape.Concatenates [S1x16x2048x32, S1x16x2048x32] S1x16x2048x64 3
  bcast_S_S1x16x2048x2048 : S_.BroadcastsInDim S1x16x2048x2048 (![] : Fin 0 → Fin S1x16x2048x2048.rank)
  dot_S1x2048x1024_S1024x1024_S1x2048x1024_2_0_01_1_n_n_wf : DotDims.WF S1x2048x1024 S1024x1024 S1x2048x1024 [2] [0] [0, 1] [1] [] []
  dot_S1x16x2048x64_S1x16x2048x64_S1x16x2048x2048_3_3_2_2_01_01_wf : DotDims.WF S1x16x2048x64 S1x16x2048x64 S1x16x2048x2048 [3] [3] [2] [2] [0, 1] [0, 1]

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def fn_part5 {F : FTy → Type} [FloatOps F] (main_v100 : IVec S1x16x2048x2048 1) (main_v103 : IVec S1x16x2048x2048 1) : IVec S1x16x2048x2048 1 :=
  let main_v104 : IVec S1x16x2048x2048 1 := ori main_v100 main_v103
  main_v104

def fn_part4 {F : FTy → Type} [FloatOps F] (main_v58 : FVec F S1x16x2048x64 .f32) (main_v77 : FVec F S1x1x2048x32 .f32) (main_v79 : FVec F S1x1x2048x32 .f32) (main_v80 : FVec F S1x16x2048x32 .f32) (main_v81 : FVec F S1x16x2048x32 .f32) (main_v82 : FVec F S1x16x2048x32 .f32) : IVec S1x16x2048x2048 1 :=
  let main_v83 : FVec F S1x16x2048x32 .f32 := mulf main_v80 main_v82
  let main_v84 : FVec F S1x16x2048x32 .f32 := broadcastInDim S1x16x2048x32 ![0, 1, 2, 3] bcast_S1x1x2048x32_S1x16x2048x32_0_1_2_3 main_v79
  let main_v85 : FVec F S1x16x2048x32 .f32 := mulf main_v81 main_v84
  let main_v86 : FVec F S1x16x2048x32 .f32 := subf main_v83 main_v85
  let main_v87 : FVec F S1x16x2048x32 .f32 := broadcastInDim S1x16x2048x32 ![0, 1, 2, 3] bcast_S1x1x2048x32_S1x16x2048x32_0_1_2_3 main_v77
  let main_v88 : FVec F S1x16x2048x32 .f32 := mulf main_v81 main_v87
  let main_v89 : FVec F S1x16x2048x32 .f32 := broadcastInDim S1x16x2048x32 ![0, 1, 2, 3] bcast_S1x1x2048x32_S1x16x2048x32_0_1_2_3 main_v79
  let main_v90 : FVec F S1x16x2048x32 .f32 := mulf main_v80 main_v89
  let main_v91 : FVec F S1x16x2048x32 .f32 := addf main_v88 main_v90
  let main_v92 : FVec F S1x16x2048x64 .f32 := (fun a b => concatenate S1x16x2048x64 3 [⟨S1x16x2048x32, a⟩, ⟨S1x16x2048x32, b⟩] concatenates_S1x16x2048x32_S1x16x2048x32_S1x16x2048x64_d3) main_v86 main_v91
  let main_v93 : FVec F S1x16x2048x2048 .f32 := (fun l r => Host.dotGeneral dot_S1x16x2048x64_S1x16x2048x64_S1x16x2048x2048_3_3_2_2_01_01 none l r) main_v58 main_v92
  let main_cst_12 : FVec F S_ .f32 := constant S_ .f32 0x41000000#32
  let main_v94 : FVec F S1x16x2048x2048 .f32 := broadcastInDim S1x16x2048x2048 ![] bcast_S_S1x16x2048x2048 main_cst_12
  let main_v95 : FVec F S1x16x2048x2048 .f32 := Host.divf main_v93 main_v94
  let main_v96 : IVec S1x16x2048x2048 32 := iotaInDim S1x16x2048x2048 32 2
  let main_v97 : IVec S1x16x2048x2048 32 := iotaInDim S1x16x2048x2048 32 3
  let main_cst_13 : FVec F S_ .f32 := constant S_ .f32 0x428A0000#32
  let main_v98 : FVec F S1x16x2048x2048 .f32 := broadcastInDim S1x16x2048x2048 ![] bcast_S_S1x16x2048x2048 main_cst_13
  let main_cst_14 : FVec F S_ .f32 := constant S_ .f32 0xFF800000#32
  let main_v99 : FVec F S1x16x2048x2048 .f32 := broadcastInDim S1x16x2048x2048 ![] bcast_S_S1x16x2048x2048 main_cst_14
  let main_v100 : IVec S1x16x2048x2048 1 := cmpi .slt main_v96 main_v97
  let main_v101 : IVec S1x16x2048x2048 1 := cmpf .ole main_v95 main_v98
  let main_v102 : IVec S1x16x2048x2048 1 := cmpf .ogt main_v95 main_v99
  let main_v103 : IVec S1x16x2048x2048 1 := andi main_v101 main_v102
  fn_part5 (F := F) main_v100 main_v103

def fn_part3 {F : FTy → Type} [FloatOps F] (main_arg1 : IVec S1x2048 32) (main_v24 : FVec F S1x16x2048x64 .f32) (main_v58 : FVec F S1x16x2048x64 .f32) (main_v61 : FVec F S32 .f32) (main_cst_8 : FVec F S_ .f32) : IVec S1x16x2048x2048 1 :=
  let main_v62 : FVec F S32 .f32 := broadcastInDim S32 ![] bcast_S_S32 main_cst_8
  let main_v63 : FVec F S32 .f32 := addf main_v62 main_v61
  let main_cst_9 : FVec F S_ .f32 := constant S_ .f32 0x42800000#32
  let main_v64 : FVec F S32 .f32 := broadcastInDim S32 ![] bcast_S_S32 main_cst_9
  let main_v65 : FVec F S32 .f32 := Host.divf main_v63 main_v64
  let main_cst_10 : FVec F S_ .f32 := constant S_ .f32 0x461C4000#32
  let main_v66 : FVec F S32 .f32 := broadcastInDim S32 ![] bcast_S_S32 main_cst_10
  let main_v67 : FVec F S32 .f32 := Host.powf main_v66 main_v65
  let main_cst_11 : FVec F S_ .f32 := constant S_ .f32 0x3F800000#32
  let main_v68 : FVec F S32 .f32 := broadcastInDim S32 ![] bcast_S_S32 main_cst_11
  let main_v69 : FVec F S32 .f32 := Host.divf main_v68 main_v67
  let main_v70 : FVec F S1x2048 .f32 := sitofp .f32 main_arg1
  let main_v71 : FVec F S1x2048x1 .f32 := broadcastInDim S1x2048x1 ![0, 1] bcast_S1x2048_S1x2048x1_0_1 main_v70
  let main_v72 : FVec F S1x1x32 .f32 := broadcastInDim S1x1x32 ![2] bcast_S32_S1x1x32_2 main_v69
  let main_v73 : FVec F S1x2048x32 .f32 := broadcastInDim S1x2048x32 ![0, 1, 2] bcast_S1x2048x1_S1x2048x32_0_1_2 main_v71
  let main_v74 : FVec F S1x2048x32 .f32 := broadcastInDim S1x2048x32 ![0, 1, 2] bcast_S1x1x32_S1x2048x32_0_1_2 main_v72
  let main_v75 : FVec F S1x2048x32 .f32 := mulf main_v73 main_v74
  let main_v76 : FVec F S1x2048x32 .f32 := Host.cos main_v75
  let main_v77 : FVec F S1x1x2048x32 .f32 := broadcastInDim S1x1x2048x32 ![0, 2, 3] bcast_S1x2048x32_S1x1x2048x32_0_2_3 main_v76
  let main_v78 : FVec F S1x2048x32 .f32 := Host.sin main_v75
  let main_v79 : FVec F S1x1x2048x32 .f32 := broadcastInDim S1x1x2048x32 ![0, 2, 3] bcast_S1x2048x32_S1x1x2048x32_0_2_3 main_v78
  let main_v80 : FVec F S1x16x2048x32 .f32 := (extractStridedSlice S1x16x2048x32 ![0, 0, 0, 0] · slices_S1x16x2048x64_S1x16x2048x32_0_0_0_0) main_v24
  let main_v81 : FVec F S1x16x2048x32 .f32 := (extractStridedSlice S1x16x2048x32 ![0, 0, 0, 32] · slices_S1x16x2048x64_S1x16x2048x32_0_0_0_32) main_v24
  let main_v82 : FVec F S1x16x2048x32 .f32 := broadcastInDim S1x16x2048x32 ![0, 1, 2, 3] bcast_S1x1x2048x32_S1x16x2048x32_0_1_2_3 main_v77
  fn_part4 (F := F) main_v58 main_v77 main_v79 main_v80 main_v81 main_v82

def fn_part2 {F : FTy → Type} [FloatOps F] (main_arg1 : IVec S1x2048 32) (main_v18 : FVec F S1x16x2048x64 .f32) (main_v24 : FVec F S1x16x2048x64 .f32) (main_v38 : FVec F S1x1x32 .f32) (main_v39 : FVec F S1x2048x32 .f32) : IVec S1x16x2048x2048 1 :=
  let main_v40 : FVec F S1x2048x32 .f32 := broadcastInDim S1x2048x32 ![0, 1, 2] bcast_S1x1x32_S1x2048x32_0_1_2 main_v38
  let main_v41 : FVec F S1x2048x32 .f32 := mulf main_v39 main_v40
  let main_v42 : FVec F S1x2048x32 .f32 := Host.cos main_v41
  let main_v43 : FVec F S1x1x2048x32 .f32 := broadcastInDim S1x1x2048x32 ![0, 2, 3] bcast_S1x2048x32_S1x1x2048x32_0_2_3 main_v42
  let main_v44 : FVec F S1x2048x32 .f32 := Host.sin main_v41
  let main_v45 : FVec F S1x1x2048x32 .f32 := broadcastInDim S1x1x2048x32 ![0, 2, 3] bcast_S1x2048x32_S1x1x2048x32_0_2_3 main_v44
  let main_v46 : FVec F S1x16x2048x32 .f32 := (extractStridedSlice S1x16x2048x32 ![0, 0, 0, 0] · slices_S1x16x2048x64_S1x16x2048x32_0_0_0_0) main_v18
  let main_v47 : FVec F S1x16x2048x32 .f32 := (extractStridedSlice S1x16x2048x32 ![0, 0, 0, 32] · slices_S1x16x2048x64_S1x16x2048x32_0_0_0_32) main_v18
  let main_v48 : FVec F S1x16x2048x32 .f32 := broadcastInDim S1x16x2048x32 ![0, 1, 2, 3] bcast_S1x1x2048x32_S1x16x2048x32_0_1_2_3 main_v43
  let main_v49 : FVec F S1x16x2048x32 .f32 := mulf main_v46 main_v48
  let main_v50 : FVec F S1x16x2048x32 .f32 := broadcastInDim S1x16x2048x32 ![0, 1, 2, 3] bcast_S1x1x2048x32_S1x16x2048x32_0_1_2_3 main_v45
  let main_v51 : FVec F S1x16x2048x32 .f32 := mulf main_v47 main_v50
  let main_v52 : FVec F S1x16x2048x32 .f32 := subf main_v49 main_v51
  let main_v53 : FVec F S1x16x2048x32 .f32 := broadcastInDim S1x16x2048x32 ![0, 1, 2, 3] bcast_S1x1x2048x32_S1x16x2048x32_0_1_2_3 main_v43
  let main_v54 : FVec F S1x16x2048x32 .f32 := mulf main_v47 main_v53
  let main_v55 : FVec F S1x16x2048x32 .f32 := broadcastInDim S1x16x2048x32 ![0, 1, 2, 3] bcast_S1x1x2048x32_S1x16x2048x32_0_1_2_3 main_v45
  let main_v56 : FVec F S1x16x2048x32 .f32 := mulf main_v46 main_v55
  let main_v57 : FVec F S1x16x2048x32 .f32 := addf main_v54 main_v56
  let main_v58 : FVec F S1x16x2048x64 .f32 := (fun a b => concatenate S1x16x2048x64 3 [⟨S1x16x2048x32, a⟩, ⟨S1x16x2048x32, b⟩] concatenates_S1x16x2048x32_S1x16x2048x32_S1x16x2048x64_d3) main_v52 main_v57
  let main_v59 : FVec F S32 .f32 := sitofp .f32 (iotaInDim S32 32 0)
  let main_cst_7 : FVec F S_ .f32 := constant S_ .f32 0x40000000#32
  let main_v60 : FVec F S32 .f32 := broadcastInDim S32 ![] bcast_S_S32 main_cst_7
  let main_v61 : FVec F S32 .f32 := mulf main_v60 main_v59
  let main_cst_8 : FVec F S_ .f32 := constant S_ .f32 0x00000000#32
  fn_part3 (F := F) main_arg1 main_v24 main_v58 main_v61 main_cst_8

def fn_part1 {F : FTy → Type} [FloatOps F] (main_arg1 : IVec S1x2048 32) (main_v18 : FVec F S1x16x2048x64 .f32) (main_v19 : FVec F S1x2048x1024 .f32) (main_v20 : FVec F S1x1x1024 .f32) : IVec S1x16x2048x2048 1 :=
  let main_v21 : FVec F S1x2048x1024 .f32 := broadcastInDim S1x2048x1024 ![0, 1, 2] bcast_S1x1x1024_S1x2048x1024_0_1_2 main_v20
  let main_v22 : FVec F S1x2048x1024 .f32 := addf main_v19 main_v21
  let main_v23 : FVec F S1x2048x16x64 .f32 := shapeCast S1x2048x16x64 main_v22 shapeCasts_S1x2048x1024_S1x2048x16x64
  let main_v24 : FVec F S1x16x2048x64 .f32 := (transpose S1x16x2048x64 [0, 2, 1, 3] · transposes_S1x2048x16x64_S1x16x2048x64_0_2_1_3) main_v23
  let main_v25 : FVec F S32 .f32 := sitofp .f32 (iotaInDim S32 32 0)
  let main_cst_2 : FVec F S_ .f32 := constant S_ .f32 0x40000000#32
  let main_v26 : FVec F S32 .f32 := broadcastInDim S32 ![] bcast_S_S32 main_cst_2
  let main_v27 : FVec F S32 .f32 := mulf main_v26 main_v25
  let main_cst_3 : FVec F S_ .f32 := constant S_ .f32 0x00000000#32
  let main_v28 : FVec F S32 .f32 := broadcastInDim S32 ![] bcast_S_S32 main_cst_3
  let main_v29 : FVec F S32 .f32 := addf main_v28 main_v27
  let main_cst_4 : FVec F S_ .f32 := constant S_ .f32 0x42800000#32
  let main_v30 : FVec F S32 .f32 := broadcastInDim S32 ![] bcast_S_S32 main_cst_4
  let main_v31 : FVec F S32 .f32 := Host.divf main_v29 main_v30
  let main_cst_5 : FVec F S_ .f32 := constant S_ .f32 0x461C4000#32
  let main_v32 : FVec F S32 .f32 := broadcastInDim S32 ![] bcast_S_S32 main_cst_5
  let main_v33 : FVec F S32 .f32 := Host.powf main_v32 main_v31
  let main_cst_6 : FVec F S_ .f32 := constant S_ .f32 0x3F800000#32
  let main_v34 : FVec F S32 .f32 := broadcastInDim S32 ![] bcast_S_S32 main_cst_6
  let main_v35 : FVec F S32 .f32 := Host.divf main_v34 main_v33
  let main_v36 : FVec F S1x2048 .f32 := sitofp .f32 main_arg1
  let main_v37 : FVec F S1x2048x1 .f32 := broadcastInDim S1x2048x1 ![0, 1] bcast_S1x2048_S1x2048x1_0_1 main_v36
  let main_v38 : FVec F S1x1x32 .f32 := broadcastInDim S1x1x32 ![2] bcast_S32_S1x1x32_2 main_v35
  let main_v39 : FVec F S1x2048x32 .f32 := broadcastInDim S1x2048x32 ![0, 1, 2] bcast_S1x2048x1_S1x2048x32_0_1_2 main_v37
  fn_part2 (F := F) main_arg1 main_v18 main_v24 main_v38 main_v39

def fn {F : FTy → Type} [FloatOps F] (main_arg0 : FVec F S1x2048x1024 .f32) (main_arg1 : IVec S1x2048 32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024x2816 .f32) (main_arg10 : FVec F S1024x2816 .f32) (main_arg11 : FVec F S2816x1024 .f32) (main_arg12 : FVec F S1024 .f32) (main_arg13 : FVec F S1024 .f32) : IVec S1x16x2048x2048 1 :=
  let main_v0 : FVec F S1x2048x1024 .f32 := mulf main_arg0 main_arg0
  let main_cst : FVec F S_ .f32 := constant S_ .f32 0x00000000#32
  let main_v1 : FVec F S1x2048 .f32 := (fun x v => Host.reduceAdd x v reducesTo_S1x2048x1024_S1x2048_d2 h_S_) main_v0 main_cst
  let main_v2 : FVec F S1x2048x1 .f32 := broadcastInDim S1x2048x1 ![0, 1] bcast_S1x2048_S1x2048x1_0_1 main_v1
  let main_cst_0 : FVec F S_ .f32 := constant S_ .f32 0x44800000#32
  let main_v3 : FVec F S1x2048x1 .f32 := broadcastInDim S1x2048x1 ![] bcast_S_S1x2048x1 main_cst_0
  let main_v4 : FVec F S1x2048x1 .f32 := Host.divf main_v2 main_v3
  let main_cst_1 : FVec F S_ .f32 := constant S_ .f32 0x358637BD#32
  let main_v5 : FVec F S1x2048x1 .f32 := broadcastInDim S1x2048x1 ![] bcast_S_S1x2048x1 main_cst_1
  let main_v6 : FVec F S1x2048x1 .f32 := addf main_v4 main_v5
  let main_v7 : FVec F S1x2048x1 .f32 := Host.rsqrt main_v6
  let main_v8 : FVec F S1x2048x1024 .f32 := broadcastInDim S1x2048x1024 ![0, 1, 2] bcast_S1x2048x1_S1x2048x1024_0_1_2 main_v7
  let main_v9 : FVec F S1x2048x1024 .f32 := mulf main_arg0 main_v8
  let main_v10 : FVec F S1x1x1024 .f32 := broadcastInDim S1x1x1024 ![2] bcast_S1024_S1x1x1024_2 main_arg12
  let main_v11 : FVec F S1x2048x1024 .f32 := broadcastInDim S1x2048x1024 ![0, 1, 2] bcast_S1x1x1024_S1x2048x1024_0_1_2 main_v10
  let main_v12 : FVec F S1x2048x1024 .f32 := mulf main_v9 main_v11
  let main_v13 : FVec F S1x2048x1024 .f32 := (fun l r => Host.dotGeneral dot_S1x2048x1024_S1024x1024_S1x2048x1024_2_0_01_1_n_n none l r) main_v12 main_arg2
  let main_v14 : FVec F S1x1x1024 .f32 := broadcastInDim S1x1x1024 ![2] bcast_S1024_S1x1x1024_2 main_arg3
  let main_v15 : FVec F S1x2048x1024 .f32 := broadcastInDim S1x2048x1024 ![0, 1, 2] bcast_S1x1x1024_S1x2048x1024_0_1_2 main_v14
  let main_v16 : FVec F S1x2048x1024 .f32 := addf main_v13 main_v15
  let main_v17 : FVec F S1x2048x16x64 .f32 := shapeCast S1x2048x16x64 main_v16 shapeCasts_S1x2048x1024_S1x2048x16x64
  let main_v18 : FVec F S1x16x2048x64 .f32 := (transpose S1x16x2048x64 [0, 2, 1, 3] · transposes_S1x2048x16x64_S1x16x2048x64_0_2_1_3) main_v17
  let main_v19 : FVec F S1x2048x1024 .f32 := (fun l r => Host.dotGeneral dot_S1x2048x1024_S1024x1024_S1x2048x1024_2_0_01_1_n_n none l r) main_v12 main_arg4
  let main_v20 : FVec F S1x1x1024 .f32 := broadcastInDim S1x1x1024 ![2] bcast_S1024_S1x1x1024_2 main_arg5
  fn_part1 (F := F) main_arg1 main_v18 main_v19 main_v20
-- ==== Kernel.lean ====
abbrev S1x2048x1024 : Shape := ⟨3, ![1, 2048, 1024]⟩
abbrev S1x2048 : Shape := ⟨2, ![1, 2048]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2048x1024 : Shape := ⟨2, ![2048, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x16x64 : Shape := ⟨4, ![1, 2048, 16, 64]⟩
abbrev S3072 : Shape := ⟨1, ![3072]⟩
abbrev S1x3072 : Shape := ⟨2, ![1, 3072]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S2048x128 : Shape := ⟨2, ![2048, 128]⟩
abbrev S512x512 : Shape := ⟨2, ![512, 512]⟩
abbrev S1536x128 : Shape := ⟨2, ![1536, 128]⟩
abbrev S512x1536 : Shape := ⟨2, ![512, 1536]⟩
abbrev S512x64 : Shape := ⟨2, ![512, 64]⟩
abbrev S1024x128 : Shape := ⟨2, ![1024, 128]⟩
abbrev S512x2816 : Shape := ⟨2, ![512, 2816]⟩

abbrev nBuf : Space → Nat
  | .hbm => 61
  | .vmem => 40
  | .smem => 0
  | _ => 0

abbrev bufTy : (tb : Table) → Fin (tcTables nBuf tb) → BufTy
  | .hbm, ⟨0, _⟩ => ⟨S1x2048x1024, .f32⟩
  | .hbm, ⟨1, _⟩ => ⟨S1x2048, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S2048x1024, .f32⟩
  | .hbm, ⟨15, _⟩ => ⟨S2048, .i32⟩
  | .hbm, ⟨16, _⟩ => ⟨S2048, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2048x1, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x64, .f32⟩
  | .hbm, ⟨40, _⟩ => ⟨S1x2048x1x64, .f32⟩
  | .hbm, ⟨41, _⟩ => ⟨S1x2048x16x64, .f32⟩
  | .hbm, ⟨42, _⟩ => ⟨S2048x1024, .f32⟩
  | .hbm, ⟨43, _⟩ => ⟨S2048x1024, .bf16⟩
  | .hbm, ⟨44, _⟩ => ⟨S2048x32, .f32⟩
  | .hbm, ⟨45, _⟩ => ⟨S2048x64, .f32⟩
  | .hbm, ⟨46, _⟩ => ⟨S1x2048x1x64, .f32⟩
  | .hbm, ⟨47, _⟩ => ⟨S1x2048x16x64, .f32⟩
  | .hbm, ⟨48, _⟩ => ⟨S2048x1024, .f32⟩
  | .hbm, ⟨49, _⟩ => ⟨S2048x1024, .bf16⟩
  | .hbm, ⟨50, _⟩ => ⟨S3072, .f32⟩
  | .hbm, ⟨51, _⟩ => ⟨S1x3072, .f32⟩
  | .hbm, ⟨52, _⟩ => ⟨S1x1024, .f32⟩
  | .hbm, ⟨53, _⟩ => ⟨S2048x1024, .bf16⟩
  | .hbm, ⟨54, _⟩ => ⟨S2048x1024, .bf16⟩
  | .hbm, ⟨55, _⟩ => ⟨S2048x1024, .bf16⟩
  | .hbm, ⟨56, _⟩ => ⟨S2048x1024, .bf16⟩
  | .hbm, ⟨57, _⟩ => ⟨S2048x1024, .bf16⟩
  | .hbm, ⟨58, _⟩ => ⟨S1x1024, .f32⟩
  | .hbm, ⟨59, _⟩ => ⟨S2048x1024, .f32⟩
  | .hbm, ⟨60, _⟩ => ⟨S1x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x3072, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S512x128, .bf16⟩
  | .local _ .vmem, ⟨28, _⟩ => ⟨S512x128, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .f32⟩
  | .local _ .vmem, ⟨32, _⟩ => ⟨S512x1024, .f32⟩
  | .local _ .vmem, ⟨33, _⟩ => ⟨S1024x1024, .f32⟩
  | .local _ .vmem, ⟨34, _⟩ => ⟨S1x1024, .f32⟩
  | .local _ .vmem, ⟨35, _⟩ => ⟨S1024x2816, .f32⟩
  | .local _ .vmem, ⟨36, _⟩ => ⟨S1024x2816, .f32⟩
  | .local _ .vmem, ⟨37, _⟩ => ⟨S2816x1024, .f32⟩
  | .local _ .vmem, ⟨38, _⟩ => ⟨S512x1024, .f32⟩
  | .local _ .vmem, ⟨39, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34_0 : Ref sig .tc := ⟨.hbm, 53, rfl⟩
abbrev main_v34_1 : Ref sig .tc := ⟨.hbm, 54, rfl⟩
abbrev main_v34_2 : Ref sig .tc := ⟨.hbm, 55, rfl⟩
abbrev main_v34_3 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![8, 4], ![false, false]⟩

def k1_cond1 (i : grid1.Coords) : BitVec 1 :=
  let arg1 : BitVec 32 := BitVec.ofNat 32 (i 1).val
  let c0_i32 : BitVec 32 := 0#32
  let v7 : BitVec 32 := Scalar.maxsi arg1 c0_i32
  let c3_i32 : BitVec 32 := 3#32
  let v8 : BitVec 32 := Scalar.minsi v7 c3_i32
  let c0_i32_3 : BitVec 32 := 0#32
  let v9 : BitVec 1 := Scalar.cmpi .ne v8 c0_i32_3
  v9

def k1_cond2 (i : grid1.Coords) : BitVec 1 :=
  let arg1 : BitVec 32 := BitVec.ofNat 32 (i 1).val
  let c0_i32 : BitVec 32 := 0#32
  let v7 : BitVec 32 := Scalar.maxsi arg1 c0_i32
  let c3_i32 : BitVec 32 := 3#32
  let v8 : BitVec 32 := Scalar.minsi v7 c3_i32
  let c1_i32 : BitVec 32 := 1#32
  let v10 : BitVec 32 := Scalar.subi v8 c1_i32
  let c0_i32_4 : BitVec 32 := 0#32
  let v11 : BitVec 1 := Scalar.cmpi .ne v10 c0_i32_4
  v11

def k1_cond3 (i : grid1.Coords) : BitVec 1 :=
  let arg1 : BitVec 32 := BitVec.ofNat 32 (i 1).val
  let c0_i32 : BitVec 32 := 0#32
  let v7 : BitVec 32 := Scalar.maxsi arg1 c0_i32
  let c3_i32 : BitVec 32 := 3#32
  let v8 : BitVec 32 := Scalar.minsi v7 c3_i32
  let c1_i32 : BitVec 32 := 1#32
  let v10 : BitVec 32 := Scalar.subi v8 c1_i32
  let c1_i32_5 : BitVec 32 := 1#32
  let v12 : BitVec 32 := Scalar.subi v10 c1_i32_5
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x2816 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2816 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2816x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== KernelIdeal.lean ====
variable {F : FTy → Type} [FloatOps F] [Named F]
def κ : String → Option EReal := fun
  | "log2e_over_8" => some (((1 / 8) * (Real.log 2)⁻¹ : ℝ) : EReal)
  | _ => none
-- ==== ReferenceIdeal.lean ====
abbrev S1x2048x1024 : Shape := ⟨3, ![1, 2048, 1024]⟩
abbrev S1x2048 : Shape := ⟨2, ![1, 2048]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x2048x1 : Shape := ⟨3, ![1, 2048, 1]⟩
abbrev S1x1x1024 : Shape := ⟨3, ![1, 1, 1024]⟩
abbrev S1x2048x16x64 : Shape := ⟨4, ![1, 2048, 16, 64]⟩
abbrev S1x16x2048x64 : Shape := ⟨4, ![1, 16, 2048, 64]⟩
abbrev S32 : Shape := ⟨1, ![32]⟩
abbrev S1x1x32 : Shape := ⟨3, ![1, 1, 32]⟩
abbrev S1x2048x32 : Shape := ⟨3, ![1, 2048, 32]⟩
abbrev S1x1x2048x32 : Shape := ⟨4, ![1, 1, 2048, 32]⟩
abbrev S1x16x2048x32 : Shape := ⟨4, ![1, 16, 2048, 32]⟩
abbrev S1x16x2048x2048 : Shape := ⟨4, ![1, 16, 2048, 2048]⟩
abbrev S2048x2048 : Shape := ⟨2, ![2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x2048x2816 : Shape := ⟨3, ![1, 2048, 2816]⟩

abbrev nBuf : Space → Nat
  | .hbm => 196
  | .vmem => 0
  | .smem => 0
  | _ => 0

abbrev hbmTy0_0 (i : Nat) : BufTy := match i % 128 with
  | 0 => ⟨S1x2048x1024, .f32⟩
  | 1 => ⟨S1x2048, .i32⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024x1024, .f32⟩
  | 9 => ⟨S1024x2816, .f32⟩
  | 10 => ⟨S1024x2816, .f32⟩
  | 11 => ⟨S2816x1024, .f32⟩
  | 12 => ⟨S1024, .f32⟩
  | 13 => ⟨S1024, .f32⟩
  | 14 => ⟨S1x2048x1024, .f32⟩
  | 15 => ⟨S_, .f32⟩
  | 16 => ⟨S1x2048, .f32⟩
  | 17 => ⟨S1x2048x1, .f32⟩
  | 18 => ⟨S_, .f32⟩
  | 19 => ⟨S1x2048x1, .f32⟩
  | 20 => ⟨S1x2048x1, .f32⟩
  | 21 => ⟨S_, .f32⟩
  | 22 => ⟨S1x2048x1, .f32⟩
  | 23 => ⟨S1x2048x1, .f32⟩
  | 24 => ⟨S1x2048x1, .f32⟩
  | 25 => ⟨S1x2048x1024, .f32⟩
  | 26 => ⟨S1x2048x1024, .f32⟩
  | 27 => ⟨S1x1x1024, .f32⟩
  | 28 => ⟨S1x2048x1024, .f32⟩
  | 29 => ⟨S1x2048x1024, .f32⟩
  | 30 => ⟨S1x2048x1024, .f32⟩
  | 31 => ⟨S1x1x1024, .f32⟩
  | 32 => ⟨S1x2048x1024, .f32⟩
  | 33 => ⟨S1x2048x1024, .f32⟩
  | 34 => ⟨S1x2048x16x64, .f32⟩
  | 35 => ⟨S1x16x2048x64, .f32⟩
  | 36 => ⟨S1x2048x1024, .f32⟩
  | 37 => ⟨S1x1x1024, .f32⟩
  | 38 => ⟨S1x2048x1024, .f32⟩
  | 39 => ⟨S1x2048x1024, .f32⟩
  | 40 => ⟨S1x2048x16x64, .f32⟩
  | 41 => ⟨S1x16x2048x64, .f32⟩
  | 42 => ⟨S1x2048x1024, .f32⟩
  | 43 => ⟨S1x1x1024, .f32⟩
  | 44 => ⟨S1x2048x1024, .f32⟩
  | 45 => ⟨S1x2048x1024, .f32⟩
  | 46 => ⟨S1x2048x16x64, .f32⟩
  | 47 => ⟨S1x16x2048x64, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S_, .f32⟩
  | 62 => ⟨S32, .f32⟩
  | 63 => ⟨S32, .f32⟩
  | 64 => ⟨S1x2048, .f32⟩
  | 65 => ⟨S1x2048x1, .f32⟩
  | 66 => ⟨S1x1x32, .f32⟩
  | 67 => ⟨S1x2048x32, .f32⟩
  | 68 => ⟨S1x2048x32, .f32⟩
  | 69 => ⟨S1x2048x32, .f32⟩
  | 70 => ⟨S1x2048x32, .f32⟩
  | 71 => ⟨S1x1x2048x32, .f32⟩
  | 72 => ⟨S1x2048x32, .f32⟩
  | 73 => ⟨S1x1x2048x32, .f32⟩
  | 74 => ⟨S1x16x2048x32, .f32⟩
  | 75 => ⟨S1x16x2048x32, .f32⟩
  | 76 => ⟨S1x16x2048x32, .f32⟩
  | 77 => ⟨S1x16x2048x32, .f32⟩
  | 78 => ⟨S1x16x2048x32, .f32⟩
  | 79 => ⟨S1x16x2048x32, .f32⟩
  | 80 => ⟨S1x16x2048x32, .f32⟩
  | 81 => ⟨S1x16x2048x32, .f32⟩
  | 82 => ⟨S1x16x2048x32, .f32⟩
  | 83 => ⟨S1x16x2048x32, .f32⟩
  | 84 => ⟨S1x16x2048x32, .f32⟩
  | 85 => ⟨S1x16x2048x32, .f32⟩
  | 86 => ⟨S1x16x2048x64, .f32⟩
  | 87 => ⟨S32, .f32⟩
  | 88 => ⟨S_, .f32⟩
  | 89 => ⟨S32, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S1x2048, .f32⟩
  | 104 => ⟨S1x2048x1, .f32⟩
  | 105 => ⟨S1x1x32, .f32⟩
  | 106 => ⟨S1x2048x32, .f32⟩
  | 107 => ⟨S1x2048x32, .f32⟩
  | 108 => ⟨S1x2048x32, .f32⟩
  | 109 => ⟨S1x2048x32, .f32⟩
  | 110 => ⟨S1x1x2048x32, .f32⟩
  | 111 => ⟨S1x2048x32, .f32⟩
  | 112 => ⟨S1x1x2048x32, .f32⟩
  | 113 => ⟨S1x16x2048x32, .f32⟩
  | 114 => ⟨S1x16x2048x32, .f32⟩
  | 115 => ⟨S1x16x2048x32, .f32⟩
  | 116 => ⟨S1x16x2048x32, .f32⟩
  | 117 => ⟨S1x16x2048x32, .f32⟩
  | 118 => ⟨S1x16x2048x32, .f32⟩
  | 119 => ⟨S1x16x2048x32, .f32⟩
  | 120 => ⟨S1x16x2048x32, .f32⟩
  | 121 => ⟨S1x16x2048x32, .f32⟩
  | 122 => ⟨S1x16x2048x32, .f32⟩
  | 123 => ⟨S1x16x2048x32, .f32⟩
  | 124 => ⟨S1x16x2048x32, .f32⟩
  | 125 => ⟨S1x16x2048x64, .f32⟩
  | 126 => ⟨S1x16x2048x2048, .f32⟩
  | 127 => ⟨S_, .f32⟩
  | _ => ⟨S1x2048x1024, .f32⟩

abbrev hbmTy0_1 (i : Nat) : BufTy := match i % 128 with
  | 0 => ⟨S1x16x2048x2048, .f32⟩
  | 1 => ⟨S1x16x2048x2048, .f32⟩
  | 2 => ⟨S_, .i1⟩
  | 3 => ⟨S2048x2048, .i1⟩
  | 4 => ⟨S2048x2048, .i32⟩
  | 5 => ⟨S_, .i32⟩
  | 6 => ⟨S2048x2048, .i32⟩
  | 7 => ⟨S2048x2048, .i32⟩
  | 8 => ⟨S2048x2048, .i32⟩
  | 9 => ⟨S2048x2048, .i1⟩
  | 10 => ⟨S_, .i1⟩
  | 11 => ⟨S2048x2048, .i1⟩
  | 12 => ⟨S2048x2048, .i1⟩
  | 13 => ⟨S1x1x2048x2048, .i1⟩
  | 14 => ⟨S_, .f32⟩
  | 15 => ⟨S_, .f32⟩
  | 16 => ⟨S1x16x2048x2048, .i1⟩
  | 17 => ⟨S1x16x2048x2048, .f32⟩
  | 18 => ⟨S1x16x2048x2048, .f32⟩
  | 19 => ⟨S_, .f32⟩
  | 20 => ⟨S1x16x2048, .f32⟩
  | 21 => ⟨S_, .f32⟩
  | 22 => ⟨S1x16x2048, .f32⟩
  | 23 => ⟨S1x16x2048, .f32⟩
  | 24 => ⟨S1x16x2048x1, .f32⟩
  | 25 => ⟨S1x16x2048x2048, .f32⟩
  | 26 => ⟨S1x16x2048x2048, .f32⟩
  | 27 => ⟨S1x16x2048x2048, .f32⟩
  | 28 => ⟨S_, .f32⟩
  | 29 => ⟨S1x16x2048, .f32⟩
  | 30 => ⟨S1x16x2048x1, .f32⟩
  | 31 => ⟨S1x16x2048x2048, .f32⟩
  | 32 => ⟨S1x16x2048x2048, .f32⟩
  | 33 => ⟨S1x16x2048x64, .f32⟩
  | 34 => ⟨S1x2048x16x64, .f32⟩
  | 35 => ⟨S1x2048x1024, .f32⟩
  | 36 => ⟨S1x2048x1024, .f32⟩
  | 37 => ⟨S1x2048x1024, .f32⟩
  | 38 => ⟨S1x2048x1024, .f32⟩
  | 39 => ⟨S_, .f32⟩
  | 40 => ⟨S1x2048, .f32⟩
  | 41 => ⟨S1x2048x1, .f32⟩
  | 42 => ⟨S_, .f32⟩
  | 43 => ⟨S1x2048x1, .f32⟩
  | 44 => ⟨S1x2048x1, .f32⟩
  | 45 => ⟨S_, .f32⟩
  | 46 => ⟨S1x2048x1, .f32⟩
  | 47 => ⟨S1x2048x1, .f32⟩
  | 48 => ⟨S1x2048x1, .f32⟩
  | 49 => ⟨S1x2048x1024, .f32⟩
  | 50 => ⟨S1x2048x1024, .f32⟩
  | 51 => ⟨S1x1x1024, .f32⟩
  | 52 => ⟨S1x2048x1024, .f32⟩
  | 53 => ⟨S1x2048x1024, .f32⟩
  | 54 => ⟨S1x2048x2816, .f32⟩
  | 55 => ⟨S1x2048x2816, .f32⟩
  | 56 => ⟨S1x2048x2816, .f32⟩
  | 57 => ⟨S_, .f32⟩
  | 58 => ⟨S1x2048x2816, .f32⟩
  | 59 => ⟨S1x2048x2816, .f32⟩
  | 60 => ⟨S_, .f32⟩
  | 61 => ⟨S1x2048x2816, .f32⟩
  | 62 => ⟨S1x2048x2816, .f32⟩
  | 63 => ⟨S1x2048x2816, .f32⟩
  | 64 => ⟨S1x2048x2816, .f32⟩
  | 65 => ⟨S1x2048x2816, .f32⟩
  | 66 => ⟨S1x2048x1024, .f32⟩
  | 67 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_7 : Ref sig .tc := ⟨.hbm, 88, rfl⟩
abbrev main_v66 : Ref sig .tc := ⟨.hbm, 89, rfl⟩
abbrev main_v67 : Ref sig .tc := ⟨.hbm, 90, rfl⟩
abbrev main_cst_8 : Ref sig .tc := ⟨.hbm, 91, rfl⟩
abbrev main_v68 : Ref sig .tc := ⟨.hbm, 92, rfl⟩
abbrev main_v69 : Ref sig .tc := ⟨.hbm, 93, rfl⟩
abbrev main_cst_9 : Ref sig .tc := ⟨.hbm, 94, rfl⟩
abbrev main_v70 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_12 : Ref sig .tc := ⟨.hbm, 127, rfl⟩
abbrev main_v100 : Ref sig .tc := ⟨.hbm, 128, rfl⟩
abbrev main_v101 : Ref sig .tc := ⟨.hbm, 129, rfl⟩
abbrev main_c : Ref sig .tc := ⟨.hbm, 130, rfl⟩
abbrev main_v102 : Ref sig .tc := ⟨.hbm, 131, rfl⟩
abbrev main_call0_v0 : Ref sig .tc := ⟨.hbm, 132, rfl⟩
abbrev main_call0_c : Ref sig .tc := ⟨.hbm, 133, rfl⟩
abbrev main_call0_v1 : Ref sig .tc := ⟨.hbm, 134, rfl⟩
abbrev main_call0_v2 : Ref sig .tc := ⟨.hbm, 135, rfl⟩
abbrev main_call0_v3 : Ref sig .tc := ⟨.hbm, 136, rfl⟩
abbrev main_call0_v4 : Ref sig .tc := ⟨.hbm, 137, rfl⟩
abbrev main_call0_c_0 : Ref sig .tc := ⟨.hbm, 138, rfl⟩
abbrev main_call0_v5 : Ref sig .tc := ⟨.hbm, 139, rfl⟩
abbrev main_v103 : Ref sig .tc := ⟨.hbm, 140, rfl⟩
abbrev main_v104 : Ref sig .tc := ⟨.hbm, 141, rfl⟩
abbrev main_cst_13 : Ref sig .tc := ⟨.hbm, 142, rfl⟩
abbrev main_call1_v0 : Ref sig .tc := ⟨.hbm, 143, rfl⟩
abbrev main_call1_v1 : Ref sig .tc := ⟨.hbm, 144, rfl⟩
abbrev main_call1_v2 : Ref sig .tc := ⟨.hbm, 145, rfl⟩
abbrev main_v105 : Ref sig .tc := ⟨.hbm, 146, rfl⟩
abbrev main_cst_14 : Ref sig .tc := ⟨.hbm, 147, rfl⟩
abbrev main_v106 : Ref sig .tc := ⟨.hbm, 148, rfl⟩
abbrev main_cst_15 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_16 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_17 : Ref sig .tc := ⟨.hbm, 167, rfl⟩
abbrev main_v123 : Ref sig .tc := ⟨.hbm, 168, rfl⟩
abbrev main_v124 : Ref sig .tc := ⟨.hbm, 169, rfl⟩
abbrev main_cst_18 : Ref sig .tc := ⟨.hbm, 170, rfl⟩
abbrev main_v125 : Ref sig .tc := ⟨.hbm, 171, rfl⟩
abbrev main_v126 : Ref sig .tc := ⟨.hbm, 172, rfl⟩
abbrev main_cst_19 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_call2_v0 : Ref sig .tc := ⟨.hbm, 183, rfl⟩
abbrev main_call2_v1 : Ref sig .tc := ⟨.hbm, 184, rfl⟩
abbrev main_call2_cst : Ref sig .tc := ⟨.hbm, 185, rfl⟩
abbrev main_call2_v2 : Ref sig .tc := ⟨.hbm, 186, rfl⟩
abbrev main_call2_v3 : Ref sig .tc := ⟨.hbm, 187, rfl⟩
abbrev main_call2_cst_0 : Ref sig .tc := ⟨.hbm, 188, rfl⟩
abbrev main_call2_v4 : Ref sig .tc := ⟨.hbm, 189, rfl⟩
abbrev main_call2_v5 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩

abbrev nD : Nat := 1
abbrev τ : Topo := Topo.v7x

variable {F : FTy → Type} [FloatOps F]
-- ==== Proof.Run.lean ====
module

public import proofs.«01_k».proof.Proof.Gen.KernelIdeal.Frame
public import Idealize.ShloMosaic.Lib.Pipeline.ValueKit

/-! The kernel's run, with its result named at the last boundary's contents. -/

set_option maxRecDepth 16384

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs to the end, leaves its arguments unchanged and its result at the last boundary's contents. -/
theorem run : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => (fun c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩))

end Cert.KernelIdeal.Run
-- ==== Proof.Rows.lean ====
module

public import Idealize.ShloMosaic.Lib.Pointwise

/-! The row functions of the decoder block, over extended reals and plain coordinates. -/

@[expose] public section

noncomputable section

open Idealize.ShloMosaic

namespace Cert.Rows

/-- The root mean square normalisation of one row of 1024 numbers, scaled by `w`. -/
def rms (x w : Fin 1024 → EReal) : Fin 1024 → EReal := fun l =>
  x l * Ideal.rsqrt (Ideal.div (∑ k, x k * x k) (Ideal.ofBits .f32 0x44800000#32) + Ideal.ofBits .f32 0x358637BD#32) * w l

/-- A row times a matrix. -/
def mv {n k : ℕ} (x : Fin n → EReal) (w : Fin n → Fin k → EReal) : Fin k → EReal := fun l => ∑ i, x i * w i l

/-- The gated feed-forward half of the block on one row. -/
def ffn (x ln : Fin 1024 → EReal) (wg wu : Fin 1024 → Fin 2816 → EReal) (wd : Fin 2816 → Fin 1024 → EReal) : Fin 1024 → EReal := fun l =>
  x l + ∑ k, (mv (rms x ln) wg k * Ideal.logistic (mv (rms x ln) wg k) * mv (rms x ln) wu k) * wd k l

/-- The value of the named constant. -/
def kap : EReal := (((1 / 8) * (Real.log 2)⁻¹ : ℝ) : EReal)

/-- The partner lane of the rotary embedding, with its sign. -/
def rot (t : Fin 1024 → EReal) : Fin 1024 → EReal := fun l =>
  if (l : ℕ) % 64 < 32 then 0 - t ⟨((l : ℕ) + 32) % 1024, Nat.mod_lt _ (by decide)⟩ else t ⟨((l : ℕ) + 992) % 1024, Nat.mod_lt _ (by decide)⟩

/-- The rotary embedding of one row of 16 heads by 64 lanes. -/
def rope (t cs sn : Fin 1024 → EReal) : Fin 1024 → EReal := fun l => t l * cs l + rot t l * sn l

/-- The scaled query row before the rotation. -/
def qRow (x ln : Fin 1024 → EReal) (w : Fin 1024 → Fin 1024 → EReal) (b : Fin 1024 → EReal) : Fin 1024 → EReal := fun l =>
  mv (fun k => rms x ln k * kap) w l + b l * kap

/-- A key or value row before the rotation. -/
def kRow (x ln : Fin 1024 → EReal) (w : Fin 1024 → Fin 1024 → EReal) (b : Fin 1024 → EReal) : Fin 1024 → EReal := fun l =>
  mv (rms x ln) w l + b l

/-- The unnormalised weight of a key for a query: two to the power of their clamped product. -/
def wgt (q k : Fin 128 → EReal) : EReal := Ideal.exp2 (min (∑ d, q d * k d) (Ideal.ofBits .f32 0x42C80000#32))

/-- The quotient of the weighted sum of the values up to row `R` by the sum of the weights. -/
def att (p v : Fin 2048 → EReal) (R : Fin 2048) : EReal :=
  Ideal.div (∑ j : Fin 2048, if (j : ℕ) ≤ (R : ℕ) then p j * v j else 0) (∑ j : Fin 2048, if (j : ℕ) ≤ (R : ℕ) then p j else 0)

/-- The rotation angle of a position and a frequency index. -/
def ang (p : BitVec 32) (k : ℕ) : Ideal .f32 :=
  FloatOps.mulf (FloatOps.sitofp FTy.f32 p)
    (FloatOps.hostDivf (FloatOps.ofBits FTy.f32 1065353216#32)
      (FloatOps.hostPowf (FloatOps.ofBits FTy.f32 1176256512#32)
        (FloatOps.hostDivf
          (FloatOps.addf (FloatOps.ofBits FTy.f32 0#32)
            (FloatOps.mulf (FloatOps.ofBits FTy.f32 1073741824#32)
              (FloatOps.sitofp FTy.f32 (BitVec.ofNat 32 k))))
          (FloatOps.ofBits FTy.f32 1115684864#32))))

end Cert.Rows
-- ==== Proof.Host.lean ====
module

public import proofs.«01_k».proof.Proof.Gen.KernelIdeal.Frame
public import proofs.«01_k».proof.Proof.Rows
public import Idealize.ShloMosaic.Lib.StableHlo.ReadAt

/-! What the host operations before the first region leave, at an index. -/

set_option maxRecDepth 16384

@[expose] public section

noncomputable section

open Idealize.ShloMosaic Idealize.ShloMosaic.TcCoe Idealize.SL.Sem

namespace Cert.KernelIdeal.Host0

open Cert.KernelIdeal Cert.KernelIdeal.Gen Cert.Rows

variable (m : (ℓ : Loc nD τ sig) → Buf (Elt Ideal) ℓ) (ρ : Dev nD → PrngReg)

theorem x_at (c : Dev nD) (r : Fin 2048) (l : Fin 1024) : V1 m ρ c main_v0 (ix2 r l) = m ((c : Thread nD τ).loc main_arg0) (ix3 0 r l) := by
  unfold V1 W1
  after_reads_at

theorem ln_at (c : Dev nD) (l : Fin 1024) : V1 m ρ c main_v33 (ix2 0 l) = m ((c : Thread nD τ).loc main_arg12) (ix1 l) := by
  unfold V1 W1
  after_reads_at

theorem bias_q (c : Dev nD) (l : Fin 1024) : V1 m ρ c main_v32 (ix2 0 ⟨(l : ℕ), by omega⟩) = m ((c : Thread nD τ).loc main_arg3) (ix1 l) := by
  unfold V1 W1
  after_reads_at
  after_reads_at

theorem bias_k (c : Dev nD) (l : Fin 1024) : V1 m ρ c main_v32 (ix2 0 ⟨1024 + (l : ℕ), by omega⟩) = m ((c : Thread nD τ).loc main_arg5) (ix1 l) := by
  unfold V1 W1
  after_reads_at
  after_reads_at

theorem bias_v (c : Dev nD) (l : Fin 1024) : V1 m ρ c main_v32 (ix2 0 ⟨2048 + (l : ℕ), by omega⟩) = m ((c : Thread nD τ).loc main_arg7) (ix1 l) := by
  unfold V1 W1
  after_reads_at
  after_reads_at
  have e : ∀ z, (⟨2048 + (l : ℕ) - 1024 - 1024, z⟩ : Fin 1024) = l := fun _ => Fin.ext (by simp only []; omega)
  rw [dif_neg (by omega), dif_neg (by omega)]
  simp only [e]

theorem cos_at (c : Dev nD) (r : Fin 2048) (l : Fin 1024) :
    V1 m ρ c main_v24 (ix2 r l) = (FloatOps.hostUnary HostUnaryOp.cos (ang (m ((c : Thread nD τ).loc main_arg1) (ix2 0 r)) ((l : ℕ) % 32)) : Ideal .f32) := by
  unfold V1 W1
  after_reads_at
  after_reads_at
  by_cases h : (l : ℕ) % 64 < 32
  · rw [dif_pos h, show (l : ℕ) % 64 = (l : ℕ) % 32 by omega]; pointwise [ang]
  · rw [dif_neg h, show (l : ℕ) % 64 - 32 = (l : ℕ) % 32 by omega]; pointwise [ang]

theorem sin_at (c : Dev nD) (r : Fin 2048) (l : Fin 1024) :
    V1 m ρ c main_v30 (ix2 r l) = (FloatOps.hostUnary HostUnaryOp.sin (ang (m ((c : Thread nD τ).loc main_arg1) (ix2 0 r)) ((l : ℕ) % 32)) : Ideal .f32) := by
  unfold V1 W1
  after_reads_at
  after_reads_at
  by_cases h : (l : ℕ) % 64 < 32
  · rw [dif_pos h, show (l : ℕ) % 64 = (l : ℕ) % 32 by omega]; pointwise [ang]
  · rw [dif_neg h, show (l : ℕ) % 64 - 32 = (l : ℕ) % 32 by omega]; pointwise [ang]

end Cert.KernelIdeal.Host0
-- ==== Proof.QkvRows.lean ====
module

public import proofs.«01_k».proof.Proof.Gen.KernelIdeal.Skeleton
public import proofs.«01_k».proof.Proof.Rows

/-! The payloads of the projection region at a row and a lane. -/

set_option maxRecDepth 16384

@[expose] public section

noncomputable section

open Idealize.ShloMosaic Idealize.ShloMosaic.TcCoe Idealize.SL.Sem

namespace Cert.KernelIdeal.Qkv

open Cert.KernelIdeal Cert.KernelIdeal.Gen Cert.Rows

/-- The mask of the first half of each head. -/
theorem mask_half (r : Fin 512) (l : Fin 1024) : k0_pay13 (ix2 r l) = 1#1 ↔ (l : ℕ) % 64 < 32 := by
  pointwise [k0_pay13]
  revert l
  decide +kernel

/-- The mask of the even heads. -/
theorem mask_even (r : Fin 512) (l : Fin 1024) :
    k0_pay1 (iota .tc S512x1024 32 [1] iota_S512x1024_d1_w32) (Scalar.select (Scalar.cmpi .eq 128#32 0#32) 1#32 128#32) (ix2 r l) = 1#1 ↔ (l : ℕ) % 128 < 64 := by
  pointwise [k0_pay1]
  revert l
  decide +kernel

/-- The query payload. -/
theorem q_pay (v0 : Vec Ideal S512x1024 .f32) (v12 : Vec Ideal S1x1024 .f32) (v20 : Vec Ideal S1024x1024 .f32) (v23 : Vec Ideal S1x1024 .f32) (r : Fin 512) (l : Fin 1024) :
    k0_pay8 v0 v12 v20 v23 (ix2 r l)
      = mv (fun k => rms (fun a => v0 (ix2 r a)) (fun a => v12 (ix2 0 a)) k * kap) (fun a b => v20 (ix2 a b)) l + v23 (ix2 0 l) * kap := by
  have hk : (Named.named κ "log2e_over_8" 0x3E38AA3B#32 : Ideal .f32) = kap := rfl
  pointwise [k0_pay8, k0_pay6, mv, rms, hk]

/-- The key payload. -/
theorem k_pay (v0 : Vec Ideal S512x1024 .f32) (v12 : Vec Ideal S1x1024 .f32) (v20 : Vec Ideal S1024x1024 .f32) (v23 : Vec Ideal S1x1024 .f32) (r : Fin 512) (l : Fin 1024) :
    k0_pay9 v0 v12 v20 v23 (ix2 r l)
      = mv (rms (fun a => v0 (ix2 r a)) (fun a => v12 (ix2 0 a))) (fun a b => v20 (ix2 a b)) l + v23 (ix2 0 l) := by
  pointwise [k0_pay9, k0_pay7, k0_pay6, mv, rms]

/-- The value payload. -/
theorem v_pay (v0 : Vec Ideal S512x1024 .f32) (v12 : Vec Ideal S1x1024 .f32) (v20 : Vec Ideal S1024x1024 .f32) (v23 : Vec Ideal S1x1024 .f32) (r : Fin 512) (l : Fin 1024) :
    k0_pay5 (k0_pay10 (k0_pay7 v0 v12) v20 v23) (ix2 r l)
      = mv (rms (fun a => v0 (ix2 r a)) (fun a => v12 (ix2 0 a))) (fun a b => v20 (ix2 a b)) l + v23 (ix2 0 l) := by
  pointwise [k0_pay5, k0_pay10, k0_pay7, k0_pay6, mv, rms]

/-- The rotated key payload, over the unrotated one. -/
theorem rope_k (t : FVec Ideal S512x1024 .bf16) (cs sn : Vec Ideal S512x1024 .bf16) (r : Fin 512) (l : Fin 1024) :
    k0_pay4 t (k0_pay11 cs) (k0_pay12 sn) k0_pay13 (ix2 r l) = rope (fun a => t (ix2 r a)) (fun a => cs (ix2 r a)) (fun a => sn (ix2 r a)) l := by
  have hm := mask_half r l
  generalize k0_pay13 = mk at hm
  have hs : Scalar.select (mk (ix2 r l)) (0 - t (ix2 r ⟨(↑l + 1024 - 992) % 1024, Nat.mod_lt _ (by decide)⟩))
      (t (ix2 r ⟨(↑l + 1024 - 32) % 1024, Nat.mod_lt _ (by decide)⟩)) = rot (fun a => t (ix2 r a)) l := by
    unfold rot
    by_cases h : (l : ℕ) % 64 < 32
    · rw [if_pos h, hm.2 h]; rfl
    · rw [if_neg h]
      have h1 := fun e => h (hm.1 e)
      have h2 : mk (ix2 r l) = 0#1 := by revert h1; generalize mk (ix2 r l) = z; revert z; decide
      rw [h2]; rfl
  have e1 : k0_pay4 t (k0_pay11 cs) (k0_pay12 sn) mk (ix2 r l) = t (ix2 r l) * cs (ix2 r l) + Scalar.select (mk (ix2 r l)) (0 - t (ix2 r ⟨(↑l + 1024 - 992) % 1024, Nat.mod_lt _ (by decide)⟩))
      (t (ix2 r ⟨(↑l + 1024 - 32) % 1024, Nat.mod_lt _ (by decide)⟩)) * sn (ix2 r l) := by
    pointwise [k0_pay4, k0_pay11, k0_pay12]
  rw [e1, hs]; rfl

/-- The rotated query payload, over the unrotated one. -/
theorem rope_q (t : FVec Ideal S512x1024 .bf16) (cs sn : Vec Ideal S512x1024 .bf16) (r : Fin 512) (l : Fin 1024) :
    k0_pay14 t cs sn (ix2 r l) = rope (fun a => t (ix2 r a)) (fun a => cs (ix2 r a)) (fun a => sn (ix2 r a)) l :=
  rope_k t cs sn r l

/-- The even heads' queries. -/
theorem even_pay (t : FVec Ideal S512x1024 .bf16) (r : Fin 512) (l : Fin 1024) :
    k0_pay2 (iota .tc S512x1024 32 [1] iota_S512x1024_d1_w32) t (Scalar.select (Scalar.cmpi .eq 128#32 0#32) 1#32 128#32) (ix2 r l)
      = if (l : ℕ) % 128 < 64 then t (ix2 r l) else 0 := by
  have hm := mask_even r l
  unfold k0_pay2
  generalize k0_pay1 _ _ = mk at hm ⊢
  have e : select mk t (broadcast S512x1024 (Scalar.ofBits .bf16 0x0000#16 : Ideal .bf16)) (ix2 r l) = Scalar.select (mk (ix2 r l)) (t (ix2 r l)) (0 : EReal) := by
    pointwise []
  rw [e]
  by_cases h : (l : ℕ) % 128 < 64
  · rw [if_pos h, hm.2 h]; rfl
  · rw [if_neg h]
    have h1 := fun e => h (hm.1 e)
    have h2 : mk (ix2 r l) = 0#1 := by revert h1; generalize mk (ix2 r l) = z; revert z; decide
    rw [h2]; rfl

/-- The odd heads' queries. -/
theorem odd_pay (t : FVec Ideal S512x1024 .bf16) (r : Fin 512) (l : Fin 1024) :
    k0_pay3 (iota .tc S512x1024 32 [1] iota_S512x1024_d1_w32) t (Scalar.select (Scalar.cmpi .eq 128#32 0#32) 1#32 128#32) (ix2 r l)
      = if (l : ℕ) % 128 < 64 then 0 else t (ix2 r l) := by
  have hm := mask_even r l
  unfold k0_pay3
  generalize k0_pay1 _ _ = mk at hm ⊢
  have e : select mk (broadcast S512x1024 (Scalar.ofBits .bf16 0x0000#16 : Ideal .bf16)) t (ix2 r l) = Scalar.select (mk (ix2 r l)) (0 : EReal) (t (ix2 r l)) := by
    pointwise []
  rw [e]
  by_cases h : (l : ℕ) % 128 < 64
  · rw [if_pos h, hm.2 h]; rfl
  · rw [if_neg h]
    have h1 := fun e => h (hm.1 e)
    have h2 : mk (ix2 r l) = 0#1 := by revert h1; generalize mk (ix2 r l) = z; revert z; decide
    rw [h2]; rfl

end Cert.KernelIdeal.Qkv
-- ==== Proof.Qkv.lean ====
module

public import proofs.«01_k».proof.Proof.Gen.KernelIdeal.Frame
public import proofs.«01_k».proof.Proof.QkvRows
public import Idealize.ShloMosaic.Lib.Pipeline.ValueKit

/-! What the projection region writes. -/

set_option maxRecDepth 16384

@[expose] public section

noncomputable section

open Idealize.ShloMosaic Idealize.ShloMosaic.TcCoe Idealize.SL.Sem
open Idealize.ShloMosaic.Pipeline (Dat)

namespace Cert.KernelIdeal.Qkv

open Cert.KernelIdeal Cert.KernelIdeal.Gen Cert.Rows

variable (V : (c : Dev nD) → (b : Ref sig .tc) → Buf (Elt Ideal) ((c : Thread nD τ).loc b))

/-- The block indices of the projection region's windows. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] :=
  (by decide +kernel : ∀ t : Fin grid0.N, _)

/-- The rotated queries of all heads. -/
def GQ (x : Vec Ideal S2048x1024 .f32) (ln : Vec Ideal S1x1024 .f32) (w : Vec Ideal S1024x1024 .f32) (b : Vec Ideal S1x3072 .f32)
    (cs sn : Vec Ideal S2048x1024 .bf16) (r : Fin 2048) (l : Fin 1024) : EReal :=
  rope (qRow (fun a => x (ix2 r a)) (fun a => ln (ix2 0 a)) (fun a b => w (ix2 a b)) (fun a => b (ix2 0 ⟨(a : ℕ), by omega⟩)))
    (fun a => cs (ix2 r a)) (fun a => sn (ix2 r a)) l

/-- The even heads' queries, the other lanes zero. -/
def GE (x : Vec Ideal S2048x1024 .f32) (ln : Vec Ideal S1x1024 .f32) (w : Vec Ideal S1024x1024 .f32) (b : Vec Ideal S1x3072 .f32)
    (cs sn : Vec Ideal S2048x1024 .bf16) : Vec Ideal S2048x1024 .bf16 := fun i =>
  if (i 1 : ℕ) % 128 < 64 then GQ x ln w b cs sn (i 0) (i 1) else (0 : EReal)

/-- The odd heads' queries, the other lanes zero. -/
def GO (x : Vec Ideal S2048x1024 .f32) (ln : Vec Ideal S1x1024 .f32) (w : Vec Ideal S1024x1024 .f32) (b : Vec Ideal S1x3072 .f32)
    (cs sn : Vec Ideal S2048x1024 .bf16) : Vec Ideal S2048x1024 .bf16 := fun i =>
  if (i 1 : ℕ) % 128 < 64 then (0 : EReal) else GQ x ln w b cs sn (i 0) (i 1)

/-- The rotated keys. -/
def GK (x : Vec Ideal S2048x1024 .f32) (ln : Vec Ideal S1x1024 .f32) (w : Vec Ideal S1024x1024 .f32) (b : Vec Ideal S1x3072 .f32)
    (cs sn : Vec Ideal S2048x1024 .bf16) : Vec Ideal S2048x1024 .bf16 := fun i =>
  rope (kRow (fun a => x (ix2 (i 0) a)) (fun a => ln (ix2 0 a)) (fun a b => w (ix2 a b)) (fun a => b (ix2 0 ⟨1024 + (a : ℕ), by omega⟩)))
    (fun a => cs (ix2 (i 0) a)) (fun a => sn (ix2 (i 0) a)) (i 1)

/-- The values. -/
def GV (x : Vec Ideal S2048x1024 .f32) (ln : Vec Ideal S1x1024 .f32) (w : Vec Ideal S1024x1024 .f32) (b : Vec Ideal S1x3072 .f32) :
    Vec Ideal S2048x1024 .bf16 := fun i =>
  kRow (fun a => x (ix2 (i 0) a)) (fun a => ln (ix2 0 a)) (fun a b => w (ix2 a b)) (fun a => b (ix2 0 ⟨2048 + (a : ℕ), by omega⟩)) (i 1)

/-- A row of a tile of 512 rows in its array. -/
abbrev row (t : Fin cfg0.N) (r : Fin 512) : Fin 2048 := ⟨t.val * 512 + r, by have : t.val < 4 := lt_of_lt_of_eq t.isLt N_0; omega⟩

theorem b0 (c : Dev nD) (t : Fin cfg0.N) (r : Fin 512) (a : Fin 1024) : iblk0 V c 0 t (ix2 r a) = V c main_v0 (ix2 (row t r) a) := by blk_point [iblk0, idx t]
theorem b1 (c : Dev nD) (t : Fin cfg0.N) (a : Fin 1024) : iblk0 V c 1 t (ix2 0 a) = V c main_v33 (ix2 0 a) := by blk_point [iblk0, idx t]
theorem b2 (c : Dev nD) (t : Fin cfg0.N) (a b : Fin 1024) : iblk0 V c 2 t (ix2 a b) = V c main_arg2 (ix2 a b) := by blk_point [iblk0, idx t]
theorem b3 (c : Dev nD) (t : Fin cfg0.N) (a b : Fin 1024) : iblk0 V c 3 t (ix2 a b) = V c main_arg4 (ix2 a b) := by blk_point [iblk0, idx t]
theorem b4 (c : Dev nD) (t : Fin cfg0.N) (a b : Fin 1024) : iblk0 V c 4 t (ix2 a b) = V c main_arg6 (ix2 a b) := by blk_point [iblk0, idx t]
theorem b5 (c : Dev nD) (t : Fin cfg0.N) (a : Fin 3072) : iblk0 V c 5 t (ix2 0 a) = V c main_v32 (ix2 0 a) := by blk_point [iblk0, idx t]
theorem b6 (c : Dev nD) (t : Fin cfg0.N) (r : Fin 512) (a : Fin 1024) : iblk0 V c 6 t (ix2 r a) = V c main_v24 (ix2 (row t r) a) := by blk_point [iblk0, idx t]
theorem b7 (c : Dev nD) (t : Fin cfg0.N) (r : Fin 512) (a : Fin 1024) : iblk0 V c 7 t (ix2 r a) = V c main_v30 (ix2 (row t r) a) := by blk_point [iblk0, idx t]
theorem e8 (t : Fin cfg0.N) (r : Fin 512) (a : Fin 1024) : ((View.whole main_v34_0).slice (win0_8.rect t)).emb (ix2 r a) = ix2 (row t r) a := by blk_ext [idx t]
theorem e9 (t : Fin cfg0.N) (r : Fin 512) (a : Fin 1024) : ((View.whole main_v34_1).slice (win0_9.rect t)).emb (ix2 r a) = ix2 (row t r) a := by blk_ext [idx t]
theorem e10 (t : Fin cfg0.N) (r : Fin 512) (a : Fin 1024) : ((View.whole main_v34_2).slice (win0_10.rect t)).emb (ix2 r a) = ix2 (row t r) a := by blk_ext [idx t]
theorem e11 (t : Fin cfg0.N) (r : Fin 512) (a : Fin 1024) : ((View.whole main_v34_3).slice (win0_11.rect t)).emb (ix2 r a) = ix2 (row t r) a := by blk_ext [idx t]

set_option maxHeartbeats 2000000 in
/-- The projection region's values. -/
theorem final_v (c : Dev nD) : (dat0 V c).arrAt 11 cfg0.N = GV (V c main_v0) (V c main_v33) (V c main_arg6) (V c main_v32) := by
  refine (dat0 V c).arrAt_eq_of_covers 11 _ (by decide +kernel) fun t hf y => ?_
  blk_simp
  rw [after0_11]
  frame_out
  idx_vars y
  rw [v_pay]
  erw [e11]
  pointwise [GV, kRow]
  simp only [b0, b1, b4, b5]

set_option maxHeartbeats 2000000 in
/-- The projection region's rotated keys. -/
theorem final_k (c : Dev nD) : (dat0 V c).arrAt 10 cfg0.N = GK (V c main_v0) (V c main_v33) (V c main_arg4) (V c main_v32) (V c main_v24) (V c main_v30) := by
  refine (dat0 V c).arrAt_eq_of_covers 10 _ (by decide +kernel) fun t hf y => ?_
  blk_simp
  rw [after0_10]
  frame_out
  idx_vars y
  rw [rope_k]
  erw [e10]
  simp only [k_pay]
  pointwise [GK, kRow]
  simp only [b0, b1, b3, b5, b6, b7]
  rfl

set_option maxHeartbeats 2000000 in
/-- The projection region's even queries. -/
theorem final_e (c : Dev nD) : (dat0 V c).arrAt 8 cfg0.N = GE (V c main_v0) (V c main_v33) (V c main_arg2) (V c main_v32) (V c main_v24) (V c main_v30) := by
  refine (dat0 V c).arrAt_eq_of_covers 8 _ (by decide +kernel) fun t hf y => ?_
  blk_simp
  rw [after0_8]
  frame_out
  idx_vars y
  erw [e8]
  unfold k0_pay15 k0_pay16
  rw [even_pay, rope_q]
  simp only [q_pay]
  pointwise [GE, GQ, qRow]
  simp only [b0, b1, b2, b5, b6, b7]
  rfl

set_option maxHeartbeats 2000000 in
/-- The projection region's odd queries. -/
theorem final_o (c : Dev nD) : (dat0 V c).arrAt 9 cfg0.N = GO (V c main_v0) (V c main_v33) (V c main_arg2) (V c main_v32) (V c main_v24) (V c main_v30) := by
  refine (dat0 V c).arrAt_eq_of_covers 9 _ (by decide +kernel) fun t hf y => ?_
  blk_simp
  rw [after0_9]
  frame_out
  idx_vars y
  erw [e9]
  unfold k0_pay15 k0_pay16
  rw [odd_pay, rope_q]
  simp only [q_pay]
  pointwise [GO, GQ, qRow]
  simp only [b0, b1, b2, b5, b6, b7]
  rfl

end Cert.KernelIdeal.Qkv
-- ==== Proof.FlashRows.lean ====
module

public import proofs.«01_k».proof.Proof.Gen.KernelIdeal.Skeleton
public import proofs.«01_k».proof.Proof.Rows
public import Idealize.ShloMosaic.Lib.WordCmp

/-! The payloads of the attention region at a row and a lane. -/

set_option maxRecDepth 16384

@[expose] public section

noncomputable section

open Idealize.ShloMosaic Idealize.ShloMosaic.TcCoe Idealize.SL.Sem

namespace Cert.KernelIdeal.Flash

open Cert.KernelIdeal Cert.KernelIdeal.Gen Cert.Rows

/-- One lane of one query row: the masked diagonal block of 512 keys and `n` earlier keys. -/
def blk {n : ℕ} (q : Fin 128 → EReal) (kd vd : Fin 512 → Fin 128 → EReal) (kp vp : Fin n → Fin 128 → EReal) (r : Fin 512) (l : Fin 128) : EReal :=
  Ideal.div ((∑ j, if j ≤ r then wgt q (kd j) * vd j l else 0) + ∑ j, wgt q (kp j) * vp j l)
    ((∑ j, if j ≤ r then wgt q (kd j) else 0) + ∑ j, wgt q (kp j))

theorem sel (r j : Fin 512) (x : EReal) : Scalar.select (k1_pay1 (ix2 r j)) x 0 = if j ≤ r then x else 0 := by
  have hm : k1_pay1 (ix2 r j) = 1#1 ↔ j ≤ r := by
    pointwise [k1_pay1]
    rw [Fin.le_def]
    word_cmp
  generalize k1_pay1 (ix2 r j) = z at hm
  by_cases h : j ≤ r
  · rw [if_pos h, hm.2 h]; rfl
  · rw [if_neg h]
    have h1 := fun e => h (hm.1 e)
    have h2 : z = 0#1 := by revert h1; clear hm; revert z; decide
    rw [h2]; rfl

set_option maxHeartbeats 2000000 in
/-- The payload of the first query block. -/
theorem payA (qe qo k v : Vec Ideal S512x128 .bf16) (r : Fin 512) (l : Fin 128) :
    k1_pay7 qe qo k v (ix2 r l)
      = blk (n := 0) (fun d => if (l : ℕ) < 64 then qe (ix2 r d) else qo (ix2 r d)) (fun j d => k (ix2 j d)) (fun j d => v (ix2 j d)) (fun j d => 0) (fun j d => 0) r l := by
  unfold blk wgt
  simp only [Fin.sum_univ_zero, add_zero]
  by_cases h : (l : ℕ) < 64
  · simp only [if_pos h]
    pointwise [k1_pay7, k1_pay2, k1_pay3]
    simp only [sel, dif_pos h, if_pos h]
    rfl
  · have hl : ∀ z, (⟨64 + ((l : ℕ) - 64), z⟩ : Fin 128) = l := fun _ => Fin.ext (by simp only []; omega)
    simp only [if_neg h]
    pointwise [k1_pay7, k1_pay2, k1_pay3]
    simp only [sel, dif_neg h, if_neg h, hl]
    rfl

set_option maxHeartbeats 2000000 in
/-- The payload of the second query block. -/
theorem payB (qe qo k v : Vec Ideal S512x128 .bf16) (kp vp : Vec Ideal S512x128 .bf16) (r : Fin 512) (l : Fin 128) :
    k1_pay6 (k1_pay38 k1_pay1 (k1_pay2 qe) k v) (k1_pay39 k1_pay1 (k1_pay3 qo) k v) (k1_pay40 k1_pay1 (k1_pay2 qe) k) (k1_pay41 k1_pay1 (k1_pay3 qo) k)
      (k1_pay43 vp) (k1_pay44 (k1_pay2 qe) kp) (k1_pay45 (k1_pay3 qo) kp) (k1_pay46 (k1_pay2 qe) kp) (constant S512x128 .f32 0#32) (ix2 r l)
      = blk (n := 512) (fun d => if (l : ℕ) < 64 then qe (ix2 r d) else qo (ix2 r d)) (fun j d => k (ix2 j d)) (fun j d => v (ix2 j d))
          (fun j d => kp (ix2 j d)) (fun j d => vp (ix2 j d)) r l := by
  unfold blk wgt
  by_cases h : (l : ℕ) < 64
  · simp only [if_pos h]
    pointwise [k1_pay6, k1_pay2, k1_pay3, k1_pay34, k1_pay35, k1_pay36, k1_pay37, k1_pay38, k1_pay39, k1_pay40, k1_pay41, k1_pay42, k1_pay43, k1_pay44, k1_pay45, k1_pay46]
    simp only [sel, dif_pos h, if_pos h]
    rfl
  · have hl : ∀ z, (⟨64 + ((l : ℕ) - 64), z⟩ : Fin 128) = l := fun _ => Fin.ext (by simp only []; omega)
    simp only [if_neg h]
    pointwise [k1_pay6, k1_pay2, k1_pay3, k1_pay34, k1_pay35, k1_pay36, k1_pay37, k1_pay38, k1_pay39, k1_pay40, k1_pay41, k1_pay42, k1_pay43, k1_pay44, k1_pay45, k1_pay46]
    simp only [sel, dif_neg h, if_neg h, hl]
    rfl

set_option maxHeartbeats 2000000 in
/-- The payload of the third query block. -/
theorem payC (qe qo k v : Vec Ideal S512x128 .bf16) (kp vp : Vec Ideal S1024x128 .bf16) (r : Fin 512) (l : Fin 128) :
    k1_pay5 (k1_pay25 k1_pay1 (k1_pay2 qe) k v) (k1_pay26 k1_pay1 (k1_pay3 qo) k v) (k1_pay27 k1_pay1 (k1_pay2 qe) k) (k1_pay28 k1_pay1 (k1_pay3 qo) k)
      (k1_pay30 vp) (k1_pay31 (k1_pay2 qe) kp) (k1_pay32 (k1_pay3 qo) kp) (k1_pay33 (k1_pay2 qe) kp) (constant S512x128 .f32 0#32) (ix2 r l)
      = blk (n := 1024) (fun d => if (l : ℕ) < 64 then qe (ix2 r d) else qo (ix2 r d)) (fun j d => k (ix2 j d)) (fun j d => v (ix2 j d))
          (fun j d => kp (ix2 j d)) (fun j d => vp (ix2 j d)) r l := by
  unfold blk wgt
  by_cases h : (l : ℕ) < 64
  · simp only [if_pos h]
    pointwise [k1_pay5, k1_pay2, k1_pay3, k1_pay21, k1_pay22, k1_pay23, k1_pay24, k1_pay25, k1_pay26, k1_pay27, k1_pay28, k1_pay29, k1_pay30, k1_pay31, k1_pay32, k1_pay33]
    simp only [sel, dif_pos h, if_pos h]
    rfl
  · have hl : ∀ z, (⟨64 + ((l : ℕ) - 64), z⟩ : Fin 128) = l := fun _ => Fin.ext (by simp only []; omega)
    simp only [if_neg h]
    pointwise [k1_pay5, k1_pay2, k1_pay3, k1_pay21, k1_pay22, k1_pay23, k1_pay24, k1_pay25, k1_pay26, k1_pay27, k1_pay28, k1_pay29, k1_pay30, k1_pay31, k1_pay32, k1_pay33]
    simp only [sel, dif_neg h, if_neg h, hl]
    rfl

set_option maxHeartbeats 2000000 in
/-- The payload of the last query block. -/
theorem payD (qe qo k v : Vec Ideal S512x128 .bf16) (kp vp : Vec Ideal S1536x128 .bf16) (r : Fin 512) (l : Fin 128) :
    k1_pay4 (k1_pay12 k1_pay1 (k1_pay2 qe) k v) (k1_pay13 k1_pay1 (k1_pay3 qo) k v) (k1_pay14 k1_pay1 (k1_pay2 qe) k) (k1_pay15 k1_pay1 (k1_pay3 qo) k)
      (k1_pay17 vp) (k1_pay18 (k1_pay2 qe) kp) (k1_pay19 (k1_pay3 qo) kp) (k1_pay20 (k1_pay2 qe) kp) (constant S512x128 .f32 0#32) (ix2 r l)
      = blk (n := 1536) (fun d => if (l : ℕ) < 64 then qe (ix2 r d) else qo (ix2 r d)) (fun j d => k (ix2 j d)) (fun j d => v (ix2 j d))
          (fun j d => kp (ix2 j d)) (fun j d => vp (ix2 j d)) r l := by
  unfold blk wgt
  by_cases h : (l : ℕ) < 64
  · simp only [if_pos h]
    pointwise [k1_pay4, k1_pay2, k1_pay3, k1_pay8, k1_pay9, k1_pay10, k1_pay11, k1_pay12, k1_pay13, k1_pay14, k1_pay15, k1_pay16, k1_pay17, k1_pay18, k1_pay19, k1_pay20]
    simp only [sel, dif_pos h, if_pos h]
    rfl
  · have hl : ∀ z, (⟨64 + ((l : ℕ) - 64), z⟩ : Fin 128) = l := fun _ => Fin.ext (by simp only []; omega)
    simp only [if_neg h]
    pointwise [k1_pay4, k1_pay2, k1_pay3, k1_pay8, k1_pay9, k1_pay10, k1_pay11, k1_pay12, k1_pay13, k1_pay14, k1_pay15, k1_pay16, k1_pay17, k1_pay18, k1_pay19, k1_pay20]
    simp only [sel, dif_neg h, if_neg h, hl]
    rfl

end Cert.KernelIdeal.Flash
-- ==== Proof.Sums.lean ====
module

public import Idealize.ShloMosaic.Lib.Pointwise

/-! Sums over the keys up to a row, cut into the row's diagonal block and the blocks before it. -/

@[expose] public section

namespace Cert.Sums

/-- The sum over the keys up to row `n * B + r` is the masked sum over the diagonal block plus the sum over the keys before it. -/
theorem split {M : Type*} [AddCommMonoid M] (K B N : ℕ) (hN : N + B ≤ K) (f : Fin K → M) (r : Fin B) :
    (∑ j : Fin K, if (j : ℕ) ≤ N + (r : ℕ) then f j else 0)
      = (∑ j : Fin B, if j ≤ r then f ⟨N + (j : ℕ), by omega⟩ else 0) + ∑ j : Fin N, f ⟨(j : ℕ), by omega⟩ := by
  let g : ℕ → M := fun j => if h : j < K then f ⟨j, h⟩ else 0
  have hg : ∀ j (h : j < K), f ⟨j, h⟩ = g j := fun j h => by simp only [g, dif_pos h]
  have e1 : (∑ j : Fin K, if (j : ℕ) ≤ N + (r : ℕ) then f j else 0) = ∑ j ∈ Finset.range K, if j ≤ N + (r : ℕ) then g j else 0 := by
    rw [← Fin.sum_univ_eq_sum_range (fun j => if j ≤ N + (r : ℕ) then g j else 0)]
    exact Finset.sum_congr rfl fun j _ => by rw [← hg j j.2]
  have e2 : (∑ j : Fin B, if j ≤ r then f ⟨N + (j : ℕ), by omega⟩ else 0) = ∑ j ∈ Finset.range B, if j ≤ (r : ℕ) then g (N + j) else 0 := by
    rw [← Fin.sum_univ_eq_sum_range (fun j => if j ≤ (r : ℕ) then g (N + j) else 0)]
    exact Finset.sum_congr rfl fun j _ => by rw [← hg (N + j) (by omega)]; rfl
  have e3 : (∑ j : Fin N, f ⟨(j : ℕ), by omega⟩) = ∑ j ∈ Finset.range N, g j := by
    rw [← Fin.sum_univ_eq_sum_range]
    exact Finset.sum_congr rfl fun j _ => by rw [← hg j (by omega)]
  obtain ⟨D, rfl⟩ := Nat.exists_eq_add_of_le hN
  rw [e1, e2, e3, Finset.sum_range_add, Finset.sum_range_add]
  have z : (∑ x ∈ Finset.range D, if N + B + x ≤ N + (r : ℕ) then g (N + B + x) else 0) = 0 :=
    Finset.sum_eq_zero fun x _ => if_neg (by have := r.2; omega)
  rw [z, add_zero, add_comm]
  congr 1
  · exact Finset.sum_congr rfl fun x _ => by simp only [Nat.add_le_add_iff_left]
  · exact Finset.sum_congr rfl fun x hx => if_pos (by have := Finset.mem_range.1 hx; omega)

end Cert.Sums
-- ==== Proof.Flash.lean ====
module

public import proofs.«01_k».proof.Proof.Gen.KernelIdeal.Frame
public import proofs.«01_k».proof.Proof.FlashRows
public import proofs.«01_k».proof.Proof.Sums
public import Idealize.ShloMosaic.Lib.Pipeline.ValueKit

/-! What the attention region writes. -/

set_option maxRecDepth 16384

@[expose] public section

noncomputable section

open Idealize.ShloMosaic Idealize.ShloMosaic.TcCoe Idealize.SL.Sem
open Idealize.ShloMosaic.Pipeline (Dat)

namespace Cert.KernelIdeal.Flash

open Cert.KernelIdeal Cert.KernelIdeal.Gen Cert.Rows

variable (V : (c : Dev nD) → (b : Ref sig .tc) → Buf (Elt Ideal) ((c : Thread nD τ).loc b))

/-- The block indices of the attention region's windows. -/
theorem idx : ∀ t : Fin cfg1.N, win1_0.index t = ![t.val % 4, t.val / 4] ∧ win1_1.index t = ![t.val % 4, t.val / 4] ∧ win1_2.index t = ![0, t.val / 4] ∧ win1_3.index t = ![0, t.val / 4]
    ∧ win1_4.index t = ![t.val % 4, t.val / 4] :=
  (by decide +kernel : ∀ t : Fin grid1.N, _)

theorem blk_eq (N : ℕ) (hN : N + 512 ≤ 2048) (q : Fin 128 → EReal) (k v : Fin 2048 → Fin 128 → EReal) (r : Fin 512) (l : Fin 128) (R : Fin 2048) (hR : (R : ℕ) = N + r) :
    blk (n := N) q (fun j => k ⟨N + (j : ℕ), by omega⟩) (fun j => v ⟨N + (j : ℕ), by omega⟩) (fun j => k ⟨(j : ℕ), by omega⟩) (fun j => v ⟨(j : ℕ), by omega⟩) r l
      = att (fun j => wgt q (k j)) (fun j => v j l) R := by
  unfold att blk
  rw [hR, Cert.Sums.split 2048 512 N hN (fun j => wgt q (k j) * v j l) r, Cert.Sums.split 2048 512 N hN (fun j => wgt q (k j)) r]

/-- The attention region's output array over its input arrays. -/
def GF (qe qo k v : Vec Ideal S2048x1024 .bf16) : Vec Ideal S2048x1024 .bf16 := fun i =>
  att (fun j => wgt (fun d => if (i 1 : ℕ) % 128 < 64 then qe (ix2 (i 0) ⟨(i 1 : ℕ) / 128 * 128 + d, by have : (i 1 : ℕ) < 1024 := (i 1).2; omega⟩)
      else qo (ix2 (i 0) ⟨(i 1 : ℕ) / 128 * 128 + d, by have : (i 1 : ℕ) < 1024 := (i 1).2; omega⟩))
    (fun d => k (ix2 j ⟨(i 1 : ℕ) / 128 * 128 + d, by have : (i 1 : ℕ) < 1024 := (i 1).2; omega⟩))) (fun j => v (ix2 j (i 1))) (i 0)

theorem lt1 (t : Fin cfg1.N) : t.val < 32 := lt_of_lt_of_eq t.isLt N_1

/-- A query row of a point in its array. -/
abbrev row (t : Fin cfg1.N) (r : Fin 512) : Fin 2048 := ⟨t.val % 4 * 512 + r, by omega⟩
/-- A lane of a point's head pair in its array. -/
abbrev lane (t : Fin cfg1.N) (d : Fin 128) : Fin 1024 := ⟨t.val / 4 * 128 + d, by have := lt1 t; omega⟩

theorem b0 (c : Dev nD) (t : Fin cfg1.N) (r : Fin 512) (a : Fin 128) : iblk1 V c 0 t (ix2 r a) = V c main_v34_0 (ix2 (row t r) (lane t a)) := by blk_point [iblk1, idx t]
theorem b1 (c : Dev nD) (t : Fin cfg1.N) (r : Fin 512) (a : Fin 128) : iblk1 V c 1 t (ix2 r a) = V c main_v34_1 (ix2 (row t r) (lane t a)) := by blk_point [iblk1, idx t]
theorem b2 (c : Dev nD) (t : Fin cfg1.N) (r : Fin 2048) (a : Fin 128) : iblk1 V c 2 t (ix2 r a) = V c main_v34_2 (ix2 r (lane t a)) := by blk_point [iblk1, idx t]
theorem b3 (c : Dev nD) (t : Fin cfg1.N) (r : Fin 2048) (a : Fin 128) : iblk1 V c 3 t (ix2 r a) = V c main_v34_3 (ix2 r (lane t a)) := by blk_point [iblk1, idx t]
theorem e4 (t : Fin cfg1.N) (r : Fin 512) (a : Fin 128) : ((View.whole main_v35).slice (win1_4.rect t)).emb (ix2 r a) = ix2 (row t r) (lane t a) := by blk_ext [idx t]

/-- What a point computes at a row and a lane. -/
abbrev ptv (c : Dev nD) (t : Fin cfg1.N) (y0 : Fin 512) (y1 : Fin 128) : EReal :=
  att (fun j => wgt (fun d => if (y1 : ℕ) < 64 then V c main_v34_0 (ix2 (row t y0) (lane t d)) else V c main_v34_1 (ix2 (row t y0) (lane t d)))
    (fun d => V c main_v34_2 (ix2 j (lane t d)))) (fun j => V c main_v34_3 (ix2 j (lane t y1))) (row t y0)

set_option maxHeartbeats 4000000 in
theorem pointA (c : Dev nD) (t : Fin cfg1.N) (h0 : ¬1 ≤ t.val % 4) (y0 : Fin 512) (y1 : Fin 128) :
    outsAt1 V c t.val t.isLt (ix2 y0 y1) = ptv V c t y0 y1 := by
  rw [outsAt1_A V c t h0]
  frame_open
  frame_out
  rw [payA]
  pointwise []
  simp only [b0, b1, b2, b3]
  rw [ptv, ← blk_eq 0 (by decide) _ (fun j d => V c main_v34_2 (ix2 j (lane t d))) (fun j d => V c main_v34_3 (ix2 j (lane t d))) y0 y1 (row t y0) (by show t.val % 4 * 512 + (y0 : ℕ) = _; omega)]
  unfold blk
  simp only [Fin.sum_univ_zero, Nat.zero_add]
set_option maxHeartbeats 4000000 in
theorem pointB (c : Dev nD) (t : Fin cfg1.N) (h0 : 1 ≤ t.val % 4) (h1 : ¬t.val % 4 ≠ 1) (y0 : Fin 512) (y1 : Fin 128) :
    outsAt1 V c t.val t.isLt (ix2 y0 y1) = ptv V c t y0 y1 := by
  rw [outsAt1_B V c t h0 h1]
  frame_open
  frame_out
  rw [payB]
  pointwise []
  simp only [b0, b1, b2, b3]
  rw [ptv, ← blk_eq 512 (by decide) _ (fun j d => V c main_v34_2 (ix2 j (lane t d))) (fun j d => V c main_v34_3 (ix2 j (lane t d))) y0 y1 (row t y0) (by show t.val % 4 * 512 + (y0 : ℕ) = _; omega)]
set_option maxHeartbeats 4000000 in
theorem pointC (c : Dev nD) (t : Fin cfg1.N) (h0 : 1 ≤ t.val % 4) (h1 : t.val % 4 ≠ 1) (h2 : ¬t.val % 4 ≠ 2) (y0 : Fin 512) (y1 : Fin 128) :
    outsAt1 V c t.val t.isLt (ix2 y0 y1) = ptv V c t y0 y1 := by
  rw [outsAt1_C V c t h0 h1 h2]
  frame_open
  frame_out
  rw [payC]
  pointwise []
  simp only [b0, b1, b2, b3]
  rw [ptv, ← blk_eq 1024 (by decide) _ (fun j d => V c main_v34_2 (ix2 j (lane t d))) (fun j d => V c main_v34_3 (ix2 j (lane t d))) y0 y1 (row t y0) (by show t.val % 4 * 512 + (y0 : ℕ) = _; omega)]
set_option maxHeartbeats 4000000 in
theorem pointD (c : Dev nD) (t : Fin cfg1.N) (h0 : 1 ≤ t.val % 4) (h1 : t.val % 4 ≠ 1) (h2 : t.val % 4 ≠ 2) (y0 : Fin 512) (y1 : Fin 128) :
    outsAt1 V c t.val t.isLt (ix2 y0 y1) = ptv V c t y0 y1 := by
  rw [outsAt1_D V c t h0 h1 h2]
  frame_open
  frame_out
  rw [payD]
  pointwise []
  simp only [b0, b1, b2, b3]
  rw [ptv, ← blk_eq 1536 (by decide) _ (fun j d => V c main_v34_2 (ix2 j (lane t d))) (fun j d => V c main_v34_3 (ix2 j (lane t d))) y0 y1 (row t y0) (by show t.val % 4 * 512 + (y0 : ℕ) = _; omega)]

set_option maxHeartbeats 4000000 in
/-- The attention region leaves `GF` in its output array. -/
theorem final (c : Dev nD) : (dat1 V c).arrAt 4 cfg1.N = GF (V c main_v34_0) (V c main_v34_1) (V c main_v34_2) (V c main_v34_3) := by
  refine (dat1 V c).arrAt_eq_of_covers 4 _ (by decide +kernel) fun t hf y => ?_
  blk_simp
  rw [after1_4]
  idx_vars y
  erw [e4]
  have h : outsAt1 V c t.val t.isLt (ix2 y0 y1) = ptv V c t y0 y1 := by
    by_cases h0 : 1 ≤ t.val % 4
    · by_cases h1 : t.val % 4 ≠ 1
      · by_cases h2 : t.val % 4 ≠ 2
        · exact pointD V c t h0 h1 h2 y0 y1
        · exact pointC V c t h0 h1 h2 y0 y1
      · exact pointB V c t h0 h1 y0 y1
    · exact pointA V c t h0 y0 y1
  rw [h]
  have e1 : (t.val / 4 * 128 + (y1 : ℕ)) % 128 = y1 := by omega
  have e2 : (t.val / 4 * 128 + (y1 : ℕ)) / 128 = t.val / 4 := by omega
  unfold GF ptv
  pointwise []
  simp only [e1, e2]

end Cert.KernelIdeal.Flash
-- ==== Proof.Ffn.lean ====
module

public import proofs.«01_k».proof.Proof.Gen.KernelIdeal.Frame
public import proofs.«01_k».proof.Proof.Rows
public import Idealize.ShloMosaic.Lib.Pipeline.ValueKit

/-! What the feed-forward region writes. -/

set_option maxRecDepth 16384

@[expose] public section

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Rows

/-- The feed-forward payload at a row and a lane. -/
theorem pay (v0 : Vec Ideal S512x1024 .f32) (v2 : Vec Ideal S512x1024 .bf16) (v4 : Vec Ideal S1024x1024 .f32) (v18 : Vec Ideal S1x1024 .f32)
    (v23 v26 : Vec Ideal S1024x2816 .f32) (v33 : Vec Ideal S2816x1024 .f32) (r : Fin 512) (l : Fin 1024) :
    k2_pay1 v0 v2 v4 v18 v23 v26 v33 (ix2 r l)
      = ffn (fun a => v0 (ix2 r a) + mv (fun k => v2 (ix2 r k)) (fun k b => v4 (ix2 k b)) a) (fun a => v18 (ix2 0 a))
          (fun a b => v23 (ix2 a b)) (fun a b => v26 (ix2 a b)) (fun a b => v33 (ix2 a b)) l := by
  pointwise [k2_pay1, ffn, rms, mv]

variable (V : (c : Dev nD) → (b : Ref sig .tc) → Buf (Elt Ideal) ((c : Thread nD τ).loc b))

/-- The block indices of the feed-forward region's windows. -/
theorem idx : ∀ t : Fin cfg2.N, win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![0, 0] ∧ win2_7.index t = ![t.val, 0] :=
  (by decide +kernel : ∀ t : Fin grid2.N, _)

/-- The feed-forward region's output array over its input arrays. -/
def G (x : Vec Ideal S2048x1024 .f32) (o : Vec Ideal S2048x1024 .bf16) (wo : Vec Ideal S1024x1024 .f32) (ln : Vec Ideal S1x1024 .f32)
    (wg wu : Vec Ideal S1024x2816 .f32) (wd : Vec Ideal S2816x1024 .f32) : Vec Ideal S2048x1024 .f32 := fun i =>
  ffn (fun a => x (ix2 (i 0) a) + mv (fun k => o (ix2 (i 0) k)) (fun k b => wo (ix2 k b)) a) (fun a => ln (ix2 0 a))
          (fun a b => wg (ix2 a b)) (fun a b => wu (ix2 a b)) (fun a b => wd (ix2 a b)) (i 1)

set_option maxHeartbeats 2000000 in
/-- The feed-forward region leaves `G` in its output array. -/
theorem final (c : Dev nD) : (dat2 V c).arrAt 7 cfg2.N = G (V c main_v0) (V c main_v35) (V c main_arg8) (V c main_v36) (V c main_arg9) (V c main_arg10) (V c main_arg11) := by
  refine (dat2 V c).arrAt_eq_of_covers 7 _ (by decide +kernel) fun t hf y => ?_
  blk_simp
  rw [after2_7]
  frame_out
  idx_vars y
  rw [pay]
  simp only [G, ffn, rms, mv]
  blk_point [iblk2, idx t]

end Cert.KernelIdeal.Ffn
-- ==== Proof.Spec.lean ====
module

public import proofs.«01_k».proof.Proof.Rows

/-! The block's arithmetic on plain coordinates: scores of one head, softmax rows, the whole row. -/

@[expose] public section

noncomputable section

open Idealize.ShloMosaic

namespace Cert.Rows

/-- The lane of a head and a lane within it. -/
def hl (h : Fin 16) (d : Fin 64) : Fin 1024 := ⟨(h : ℕ) * 64 + d, by omega⟩

/-- The cosines of a position on the 1024 lanes: lane `l` has frequency `l mod 32`. -/
def co (p : BitVec 32) : Fin 1024 → EReal := fun l => (FloatOps.hostUnary HostUnaryOp.cos (ang p ((l : ℕ) % 32)) : Ideal .f32)

/-- The sines likewise. -/
def si (p : BitVec 32) : Fin 1024 → EReal := fun l => (FloatOps.hostUnary HostUnaryOp.sin (ang p ((l : ℕ) % 32)) : Ideal .f32)

/-- The product of a query row and a key row over the lanes of one head. -/
def hdot (q k : Fin 1024 → EReal) (h : Fin 16) : EReal := ∑ d, q (hl h d) * k (hl h d)

/-- The score of a query row and a key row: their product over the root of the head's width. -/
def score (q k : Fin 1024 → EReal) (h : Fin 16) : EReal := Ideal.div (hdot q k h) (Ideal.ofBits .f32 0x41000000#32)

/-- A score row with the keys after `R` masked. -/
def masked (s : Fin 2048 → EReal) (R : Fin 2048) : Fin 2048 → EReal := fun j => if (j : ℕ) ≤ (R : ℕ) then s j else ⊥

/-- The exponentials of a row less its maximum. -/
def expo (u : Fin 2048 → EReal) : Fin 2048 → EReal := fun j => Ideal.exp (u j - max ⊥ (Finset.univ.fold max ⊥ u))

/-- The softmax of a row, weighing `v`. -/
def soft (e v : Fin 2048 → EReal) : EReal := ∑ j, Ideal.div (e j) (∑ k, e k) * v j

/-- The attention output of one row, head by head. -/
def attn (q : Fin 1024 → EReal) (k v : Fin 2048 → Fin 1024 → EReal) (r : Fin 2048) : Fin 1024 → EReal := fun l =>
  soft (expo (masked (fun j => score q (k j) ⟨(l : ℕ) / 64, by omega⟩) r)) (fun j => v j l)

end Cert.Rows
-- ==== Proof.Scale.lean ====
module

public import proofs.«01_k».proof.Proof.Spec
public import Mathlib.Analysis.SpecialFunctions.Pow.Real

/-! The scale folded into the queries: it leaves the rotation and the product of two rows unchanged but for itself, and
two to the power of the scaled product is the exponential of the score. -/

@[expose] public section

noncomputable section

open Idealize.ShloMosaic

namespace Cert.Rows

/-- A nonnegative real factor distributes over a finite sum of extended reals. -/
theorem sum_scale {ι : Type} (s : Finset ι) (f : ι → EReal) (k : ℝ) (hk : 0 ≤ k) : (∑ i ∈ s, f i) * (k : EReal) = ∑ i ∈ s, f i * (k : EReal) := by
  classical
  induction s using Finset.induction_on with
  | empty => simp
  | insert a s ha ih =>
    rw [Finset.sum_insert ha, Finset.sum_insert ha, EReal.right_distrib_of_nonneg_of_ne_top (by exact_mod_cast hk) (EReal.coe_ne_top k), ih]

/-- The scale as a real number. -/
def kr : ℝ := (1 / 8) * (Real.log 2)⁻¹

theorem kr_nonneg : 0 ≤ kr := by
  unfold kr
  have := Real.log_nonneg (x := 2) (by norm_num)
  positivity

theorem kap_eq : kap = (kr : EReal) := rfl

theorem qRow_eq (x ln : Fin 1024 → EReal) (w : Fin 1024 → Fin 1024 → EReal) (b : Fin 1024 → EReal) (l : Fin 1024) :
    qRow x ln w b l = kRow x ln w b l * kap := by
  unfold qRow kRow mv
  rw [kap_eq, EReal.right_distrib_of_nonneg_of_ne_top (by exact_mod_cast kr_nonneg) (EReal.coe_ne_top kr), sum_scale _ _ _ kr_nonneg]
  exact Ideal.add_congr (Finset.sum_congr rfl fun i _ => mul_right_comm _ _ _) rfl

theorem rot_scale (t : Fin 1024 → EReal) (l : Fin 1024) : rot (fun a => t a * kap) l = rot t l * kap := by
  unfold rot
  split
  · rw [zero_sub, zero_sub, EReal.neg_mul]
  · rfl

theorem rope_scale (t cs sn : Fin 1024 → EReal) (l : Fin 1024) : rope (fun a => t a * kap) cs sn l = rope t cs sn l * kap := by
  unfold rope
  rw [rot_scale, kap_eq, EReal.right_distrib_of_nonneg_of_ne_top (by exact_mod_cast kr_nonneg) (EReal.coe_ne_top kr)]
  exact Ideal.add_congr (mul_right_comm _ _ _) (mul_right_comm _ _ _)

theorem rope_qRow (x ln : Fin 1024 → EReal) (w : Fin 1024 → Fin 1024 → EReal) (b cs sn : Fin 1024 → EReal) (l : Fin 1024) :
    rope (qRow x ln w b) cs sn l = rope (kRow x ln w b) cs sn l * kap := by
  rw [show qRow x ln w b = fun a => kRow x ln w b a * kap from funext fun a => qRow_eq x ln w b a, rope_scale]

/-- The product over 128 lanes of a query row that is zero outside one head's half is the product over that head. -/
theorem half_dot (q k : Fin 1024 → EReal) (l : Fin 1024) :
    (∑ d : Fin 128, (if ((l : ℕ) % 128 < 64 ↔ (d : ℕ) < 64) then q ⟨(l : ℕ) / 128 * 128 + d, by omega⟩ else 0) * k ⟨(l : ℕ) / 128 * 128 + d, by omega⟩)
      = hdot q k ⟨(l : ℕ) / 64, by omega⟩ := by
  refine (Fin.sum_univ_add (a := 64) (b := 64) _).trans ?_
  unfold hdot
  by_cases h : (l : ℕ) % 128 < 64
  · refine (Ideal.add_congr (Finset.sum_congr rfl fun d _ => ?_) (Finset.sum_eq_zero fun d _ => ?_)).trans (add_zero _)
    · have e : ∀ z, (⟨(l : ℕ) / 128 * 128 + (Fin.castAdd 64 d : Fin 128), z⟩ : Fin 1024) = hl ⟨(l : ℕ) / 64, by omega⟩ d := fun _ => Fin.ext (by simp only [hl, Fin.val_castAdd]; omega)
      rw [if_pos (by simp only [h, Fin.val_castAdd, true_iff]; omega), e]
    · rw [if_neg (by simp only [h, Fin.val_natAdd, true_iff]; omega), zero_mul]
  · refine (Ideal.add_congr (Finset.sum_eq_zero fun d _ => ?_) (Finset.sum_congr rfl fun d _ => ?_)).trans (zero_add _)
    · rw [if_neg (by simp only [h, Fin.val_castAdd, false_iff]; omega), zero_mul]
    · have e : ∀ z, (⟨(l : ℕ) / 128 * 128 + (Fin.natAdd 64 d : Fin 128), z⟩ : Fin 1024) = hl ⟨(l : ℕ) / 64, by omega⟩ d := fun _ => Fin.ext (by simp only [hl, Fin.val_natAdd]; omega)
      rw [if_pos (by simp only [h, Fin.val_natAdd, false_iff]; omega), e]

theorem hdot_scale (q k : Fin 1024 → EReal) (h : Fin 16) : hdot (fun l => q l * kap) k h = hdot q k h * kap := by
  unfold hdot
  rw [kap_eq, sum_scale _ _ _ kr_nonneg]
  exact Finset.sum_congr rfl fun d _ => mul_right_comm _ _ _

theorem eight : Ideal.ofBits .f32 0x41000000#32 = ((8 : ℝ) : EReal) := by
  simp [Ideal.ofBits, Ideal.ieee, -EReal.coe_mul]; norm_num

theorem hundred : Ideal.ofBits .f32 0x42C80000#32 = ((100 : ℝ) : EReal) := by
  simp [Ideal.ofBits, Ideal.ieee, -EReal.coe_mul]; norm_num

theorem score_scale (q k : Fin 1024 → EReal) (h : Fin 16) : hdot q k h * kap = score q k h * (((Real.log 2)⁻¹ : ℝ) : EReal) := by
  unfold score
  rw [eight, Ideal.div_coe (by norm_num), kap, EReal.coe_mul, mul_assoc]

/-- The logarithm of two is at least 0.69. -/
theorem log_two_ge : (69 : ℝ) / 100 ≤ Real.log 2 := by
  rw [Real.le_log_iff_exp_le (by norm_num)]
  refine (Real.exp_bound' (by norm_num) (by norm_num) (n := 8) (by norm_num)).trans ?_
  norm_num [Finset.sum_range_succ, Nat.factorial]

/-- The clamped power of two is the exponential of a score of at most 69. -/
theorem exp2_score (s : ℝ) (h : s ≤ 69) :
    Ideal.exp2 (min ((s : EReal) * (((Real.log 2)⁻¹ : ℝ) : EReal)) (Ideal.ofBits .f32 0x42C80000#32)) = ((Real.exp s : ℝ) : EReal) := by
  have hl := log_two_ge
  have hp : 0 < Real.log 2 := by linarith
  rw [hundred, ← EReal.coe_mul, min_eq_left (by
    rw [EReal.coe_le_coe_iff, ← div_eq_mul_inv, div_le_iff₀ hp]; linarith), Ideal.exp2_coe]
  congr 1
  show (2 : ℝ) ^ (s * (Real.log 2)⁻¹) = _
  rw [Real.rpow_def_of_pos (by norm_num)]
  congr 1
  field_simp

end Cert.Rows
-- ==== Proof.Softmax.lean ====
module

public import proofs.«01_k».proof.Proof.Spec
public import proofs.«01_k».proof.Proof.Scale

/-! A causal softmax row, with its maximum taken off or not. -/

@[expose] public section

noncomputable section

open Idealize.ShloMosaic

namespace Cert.Rows

/-- The real weight of a key: the exponential of its score, zero after the row. -/
def wt (σ : Fin 2048 → ℝ) (R : Fin 2048) (j : Fin 2048) : ℝ := if (j : ℕ) ≤ (R : ℕ) then Real.exp (σ j) else 0

theorem wt_pos (σ : Fin 2048 → ℝ) (R : Fin 2048) : 0 < ∑ j, wt σ R j := by
  refine Finset.sum_pos' (fun j _ => ?_) ⟨R, Finset.mem_univ R, ?_⟩
  · unfold wt; split <;> positivity
  · unfold wt; rw [if_pos (le_refl _)]; positivity

theorem coe_total (f : Fin 2048 → ℝ) : ∑ j, (f j : EReal) = ((∑ j, f j : ℝ) : EReal) := by
  have : ∀ s : Finset (Fin 2048), ∑ j ∈ s, (f j : EReal) = ((∑ j ∈ s, f j : ℝ) : EReal) := by
    intro s
    induction s using Finset.induction_on with
    | empty => simp
    | insert a s ha ih => rw [Finset.sum_insert ha, Finset.sum_insert ha, EReal.coe_add, ih]
  exact this _

/-- The kernel's row: the weighted sum over the weights' sum. -/
theorem att_eq (p v : Fin 2048 → EReal) (σ : Fin 2048 → ℝ) (R : Fin 2048) (hp : ∀ j : Fin 2048, (j : ℕ) ≤ (R : ℕ) → p j = ((Real.exp (σ j) : ℝ) : EReal)) :
    att p v R = ∑ j, ((wt σ R j * (1 / ∑ k, wt σ R k) : ℝ) : EReal) * v j := by
  have hL := wt_pos σ R
  unfold att
  have e1 : ∀ j : Fin 2048, (if (j : ℕ) ≤ (R : ℕ) then p j * v j else 0) = ((wt σ R j : ℝ) : EReal) * v j := by
    intro j
    unfold wt
    split
    · rename_i h; rw [hp j h]
    · rw [EReal.coe_zero, zero_mul]
  have e2 : ∀ j : Fin 2048, (if (j : ℕ) ≤ (R : ℕ) then p j else 0) = ((wt σ R j : ℝ) : EReal) := by
    intro j
    unfold wt
    split
    · rename_i h; rw [hp j h]
    · rw [EReal.coe_zero]
  rw [Finset.sum_congr rfl fun j _ => e1 j, Finset.sum_congr rfl fun j _ => e2 j, coe_total, Ideal.div_coe hL.ne', sum_scale _ _ _ (by positivity)]
  refine Finset.sum_congr rfl fun j _ => ?_
  rw [EReal.coe_mul, mul_right_comm]

/-- The maximum of the masked row is a real number. -/
theorem top_real (s : Fin 2048 → EReal) (σ : Fin 2048 → ℝ) (R : Fin 2048) (hs : ∀ j : Fin 2048, (j : ℕ) ≤ (R : ℕ) → s j = ((σ j : ℝ) : EReal)) :
    ∃ μ : ℝ, max ⊥ (Finset.univ.fold max ⊥ (masked s R)) = (μ : EReal) := by
  have e : Finset.univ.fold max ⊥ (masked s R) = Finset.univ.sup (masked s R) := rfl
  rw [e, max_eq_right bot_le]
  have h1 : Finset.univ.sup (masked s R) < ⊤ := by
    rw [Finset.sup_lt_iff (by exact bot_lt_top)]
    intro j _
    unfold masked
    split
    · rename_i h; rw [hs j h]; exact EReal.coe_lt_top _
    · exact bot_lt_top
  have h2 : ⊥ < Finset.univ.sup (masked s R) := by
    refine lt_of_lt_of_le ?_ (Finset.le_sup (f := masked s R) (Finset.mem_univ R))
    unfold masked
    rw [if_pos (le_refl _), hs R (le_refl _)]
    exact EReal.bot_lt_coe _
  exact ⟨_, (EReal.coe_toReal h1.ne h2.ne').symm⟩

/-- The reference's row: the same weights, each over their sum. -/
theorem soft_eq (s v : Fin 2048 → EReal) (σ : Fin 2048 → ℝ) (R : Fin 2048) (hs : ∀ j : Fin 2048, (j : ℕ) ≤ (R : ℕ) → s j = ((σ j : ℝ) : EReal)) :
    soft (expo (masked s R)) v = ∑ j, ((wt σ R j * (1 / ∑ k, wt σ R k) : ℝ) : EReal) * v j := by
  obtain ⟨μ, hμ⟩ := top_real s σ R hs
  have hL := wt_pos σ R
  have e : ∀ j, expo (masked s R) j = ((wt σ R j * Real.exp (-μ) : ℝ) : EReal) := by
    intro j
    unfold expo
    rw [hμ]
    unfold masked wt
    split
    · rename_i h
      rw [hs j h, ← EReal.coe_sub, Ideal.exp_coe, sub_eq_add_neg, Real.exp_add]
    · rw [zero_mul, EReal.coe_zero, EReal.bot_sub]; rfl
  unfold soft
  have hE := Real.exp_pos (-μ)
  rw [Finset.sum_congr rfl fun j _ => e j, coe_total, ← Finset.sum_mul]
  refine Finset.sum_congr rfl fun j _ => ?_
  rw [e j, Ideal.div_coe (by positivity), ← EReal.coe_mul]
  congr 2
  field_simp

/-- The two rows agree. -/
theorem att_eq_soft (p s v : Fin 2048 → EReal) (σ : Fin 2048 → ℝ) (R : Fin 2048)
    (hp : ∀ j : Fin 2048, (j : ℕ) ≤ (R : ℕ) → p j = ((Real.exp (σ j) : ℝ) : EReal)) (hs : ∀ j : Fin 2048, (j : ℕ) ≤ (R : ℕ) → s j = ((σ j : ℝ) : EReal)) :
    att p v R = soft (expo (masked s R)) v := (att_eq p v σ R hp).trans (soft_eq s v σ R hs).symm

end Cert.Rows
-- ==== Proof.Attn.lean ====
module

public import proofs.«01_k».proof.Proof.Softmax

/-! One lane of the kernel's attention is the reference's. -/

@[expose] public section

noncomputable section

open Idealize.ShloMosaic

namespace Cert.Rows

/-- The lane of a position within the pair of heads that holds `l`. -/
def pl (l : Fin 1024) (d : Fin 128) : Fin 1024 := ⟨(l : ℕ) / 128 * 128 + d, by omega⟩

/-- The half a lane lies in decides which copy of the queries is read, and the copy is zero in the other half. -/
theorem sel_half (l : Fin 1024) (d : Fin 128) (x : EReal) :
    (if (l : ℕ) % 128 < 64 then (if (pl l d : ℕ) % 128 < 64 then x else 0) else (if (pl l d : ℕ) % 128 < 64 then 0 else x))
      = if ((l : ℕ) % 128 < 64 ↔ (d : ℕ) < 64) then x else 0 := by
  have e : (pl l d : ℕ) % 128 = d := by unfold pl; simp only []; omega
  rw [e]
  by_cases h : (l : ℕ) % 128 < 64 <;> by_cases h2 : (d : ℕ) < 64 <;> simp [h, h2]

theorem wgt_eq (q k : Fin 1024 → EReal) (l : Fin 1024) (σ : ℝ) (hσ : score q k ⟨(l : ℕ) / 64, by omega⟩ = (σ : EReal)) (h69 : σ ≤ 69) :
    wgt (fun d => if (l : ℕ) % 128 < 64 then (if (pl l d : ℕ) % 128 < 64 then q (pl l d) * kap else 0) else (if (pl l d : ℕ) % 128 < 64 then 0 else q (pl l d) * kap))
      (fun d => k (pl l d)) = ((Real.exp σ : ℝ) : EReal) := by
  unfold wgt
  simp only [sel_half]
  have e := half_dot (fun a => q a * kap) k l
  rw [hdot_scale, score_scale, hσ] at e
  rw [← exp2_score σ h69, ← e]
  rfl

theorem attn_eq (q : Fin 1024 → EReal) (k v : Fin 2048 → Fin 1024 → EReal) (r : Fin 2048) (l : Fin 1024)
    (hs : ∀ (h : Fin 16) (j : Fin 2048), (j : ℕ) ≤ (r : ℕ) → score q (k j) h ≤ ((69 : ℝ) : EReal) ∧ ⊥ < score q (k j) h) :
    att (fun j => wgt (fun d => if (l : ℕ) % 128 < 64 then (if (pl l d : ℕ) % 128 < 64 then q (pl l d) * kap else 0) else (if (pl l d : ℕ) % 128 < 64 then 0 else q (pl l d) * kap))
      (fun d => k j (pl l d))) (fun j => v j l) r = attn q k v r l := by
  have hc : ∀ j : Fin 2048, (j : ℕ) ≤ (r : ℕ) → score q (k j) ⟨(l : ℕ) / 64, by omega⟩ = (((score q (k j) ⟨(l : ℕ) / 64, by omega⟩).toReal : ℝ) : EReal) := fun j hj =>
    (EReal.coe_toReal ((hs _ j hj).1.trans_lt (EReal.coe_lt_top _)).ne (hs _ j hj).2.ne').symm
  unfold attn
  refine att_eq_soft _ _ _ (fun j => (score q (k j) ⟨(l : ℕ) / 64, by omega⟩).toReal) r (fun j hj => ?_) hc
  refine wgt_eq q (k j) l _ (hc j hj) ?_
  have := (hs ⟨(l : ℕ) / 64, by omega⟩ j hj).1
  rw [hc j hj] at this
  exact_mod_cast this

end Cert.Rows
-- ==== Proof.KernelValue.lean ====
module

public import proofs.«01_k».proof.Proof.Host
public import proofs.«01_k».proof.Proof.Qkv
public import proofs.«01_k».proof.Proof.Flash
public import proofs.«01_k».proof.Proof.Ffn
public import proofs.«01_k».proof.Proof.Attn
public import Idealize.ShloMosaic.Lib.StableHlo.ReadAt

/-! The kernel's result at an index, as the block's row functions of the arguments. -/

set_option maxRecDepth 16384

@[expose] public section

noncomputable section

open Idealize.ShloMosaic Idealize.ShloMosaic.TcCoe Idealize.SL.Sem

namespace Cert.KernelIdeal.KernelValue

open Cert.KernelIdeal Cert.KernelIdeal.Gen Cert.Rows Cert.KernelIdeal.Qkv Cert.KernelIdeal.Flash Cert.KernelIdeal.Ffn Cert.KernelIdeal.Host0

variable (m : (ℓ : Loc nD τ sig) → Buf (Elt Ideal) ℓ) (ρ : Dev nD → PrngReg) (c : Dev nD)

/-- Row `r` of the input. -/
abbrev xr (r : Fin 2048) : Fin 1024 → EReal := fun a => m ((c : Thread nD τ).loc main_arg0) (ix3 0 r a)
/-- A vector argument. -/
abbrev vec (b : FVec Ideal S1024 .f32) : Fin 1024 → EReal := fun a => b (ix1 a)
/-- A square matrix argument. -/
abbrev mat (w : FVec Ideal S1024x1024 .f32) : Fin 1024 → Fin 1024 → EReal := fun a b => w (ix2 a b)

/-- The rotated query rows, unscaled. -/
abbrev qr (r : Fin 2048) : Fin 1024 → EReal :=
  rope (kRow (xr m c r) (vec (m ((c : Thread nD τ).loc main_arg12))) (mat (m ((c : Thread nD τ).loc main_arg2))) (vec (m ((c : Thread nD τ).loc main_arg3)))) (co (m ((c : Thread nD τ).loc main_arg1) (ix2 0 r))) (si (m ((c : Thread nD τ).loc main_arg1) (ix2 0 r)))
/-- The rotated key rows. -/
abbrev kr (r : Fin 2048) : Fin 1024 → EReal :=
  rope (kRow (xr m c r) (vec (m ((c : Thread nD τ).loc main_arg12))) (mat (m ((c : Thread nD τ).loc main_arg4))) (vec (m ((c : Thread nD τ).loc main_arg5)))) (co (m ((c : Thread nD τ).loc main_arg1) (ix2 0 r))) (si (m ((c : Thread nD τ).loc main_arg1) (ix2 0 r)))
/-- The value rows. -/
abbrev vr (r : Fin 2048) : Fin 1024 → EReal :=
  kRow (xr m c r) (vec (m ((c : Thread nD τ).loc main_arg12))) (mat (m ((c : Thread nD τ).loc main_arg6))) (vec (m ((c : Thread nD τ).loc main_arg7)))

theorem x_row (r : Fin 2048) : (fun a => V1 m ρ c main_v0 (ix2 r a)) = xr m c r := funext fun a => x_at m ρ c r a
theorem ln_row : (fun a => V1 m ρ c main_v33 (ix2 0 a)) = vec (m ((c : Thread nD τ).loc main_arg12)) := funext fun a => ln_at m ρ c a
theorem cos_row (r : Fin 2048) : (fun a => V1 m ρ c main_v24 (ix2 r a)) = co (m ((c : Thread nD τ).loc main_arg1) (ix2 0 r)) := funext fun a => cos_at m ρ c r a
theorem sin_row (r : Fin 2048) : (fun a => V1 m ρ c main_v30 (ix2 r a)) = si (m ((c : Thread nD τ).loc main_arg1) (ix2 0 r)) := funext fun a => sin_at m ρ c r a
theorem bq_row : (fun a : Fin 1024 => V1 m ρ c main_v32 (ix2 0 ⟨(a : ℕ), by omega⟩)) = vec (m ((c : Thread nD τ).loc main_arg3)) := funext fun a => bias_q m ρ c a
theorem bk_row : (fun a : Fin 1024 => V1 m ρ c main_v32 (ix2 0 ⟨1024 + (a : ℕ), by omega⟩)) = vec (m ((c : Thread nD τ).loc main_arg5)) := funext fun a => bias_k m ρ c a
theorem bv_row : (fun a : Fin 1024 => V1 m ρ c main_v32 (ix2 0 ⟨2048 + (a : ℕ), by omega⟩)) = vec (m ((c : Thread nD τ).loc main_arg7)) := funext fun a => bias_v m ρ c a
theorem w2_in : V1 m ρ c main_arg2 = m ((c : Thread nD τ).loc main_arg2) := W1_args m ρ c main_arg2 (by decide)
theorem w4_in : V1 m ρ c main_arg4 = m ((c : Thread nD τ).loc main_arg4) := W1_args m ρ c main_arg4 (by decide)
theorem w6_in : V1 m ρ c main_arg6 = m ((c : Thread nD τ).loc main_arg6) := W1_args m ρ c main_arg6 (by decide)

theorem q_at (r : Fin 2048) (l : Fin 1024) :
    GQ (V1 m ρ c main_v0) (V1 m ρ c main_v33) (V1 m ρ c main_arg2) (V1 m ρ c main_v32) (V1 m ρ c main_v24) (V1 m ρ c main_v30) r l = qr m c r l * kap := by
  rw [w2_in m ρ c]
  unfold GQ
  rw [x_row m ρ c r, ln_row m ρ c, bq_row m ρ c, cos_row m ρ c r, sin_row m ρ c r, rope_qRow]

theorem k_at (r : Fin 2048) (l : Fin 1024) :
    GK (V1 m ρ c main_v0) (V1 m ρ c main_v33) (V1 m ρ c main_arg4) (V1 m ρ c main_v32) (V1 m ρ c main_v24) (V1 m ρ c main_v30) (ix2 r l) = kr m c r l := by
  rw [w4_in m ρ c]
  show rope (kRow (fun a => V1 m ρ c main_v0 (ix2 r a)) (fun a => V1 m ρ c main_v33 (ix2 0 a)) _ (fun a : Fin 1024 => V1 m ρ c main_v32 (ix2 0 ⟨1024 + (a : ℕ), by omega⟩))) (fun a => V1 m ρ c main_v24 (ix2 r a)) (fun a => V1 m ρ c main_v30 (ix2 r a)) l = _
  rw [x_row m ρ c r, ln_row m ρ c, bk_row m ρ c, cos_row m ρ c r, sin_row m ρ c r]

theorem v_at (r : Fin 2048) (l : Fin 1024) :
    GV (V1 m ρ c main_v0) (V1 m ρ c main_v33) (V1 m ρ c main_arg6) (V1 m ρ c main_v32) (ix2 r l) = vr m c r l := by
  rw [w6_in m ρ c]
  show kRow (fun a => V1 m ρ c main_v0 (ix2 r a)) (fun a => V1 m ρ c main_v33 (ix2 0 a)) _ (fun a : Fin 1024 => V1 m ρ c main_v32 (ix2 0 ⟨2048 + (a : ℕ), by omega⟩)) l = _
  rw [x_row m ρ c r, ln_row m ρ c, bv_row m ρ c]

theorem e_in : V2 m ρ c main_v34_0 = GE (V1 m ρ c main_v0) (V1 m ρ c main_v33) (V1 m ρ c main_arg2) (V1 m ρ c main_v32) (V1 m ρ c main_v24) (V1 m ρ c main_v30) :=
  (W2_arr m ρ c 8).trans (final_e (V1 m ρ) c)
theorem o_in : V2 m ρ c main_v34_1 = GO (V1 m ρ c main_v0) (V1 m ρ c main_v33) (V1 m ρ c main_arg2) (V1 m ρ c main_v32) (V1 m ρ c main_v24) (V1 m ρ c main_v30) :=
  (W2_arr m ρ c 9).trans (final_o (V1 m ρ) c)
theorem k_in : V2 m ρ c main_v34_2 = GK (V1 m ρ c main_v0) (V1 m ρ c main_v33) (V1 m ρ c main_arg4) (V1 m ρ c main_v32) (V1 m ρ c main_v24) (V1 m ρ c main_v30) :=
  (W2_arr m ρ c 10).trans (final_k (V1 m ρ) c)
theorem v_in : V2 m ρ c main_v34_3 = GV (V1 m ρ c main_v0) (V1 m ρ c main_v33) (V1 m ρ c main_arg6) (V1 m ρ c main_v32) :=
  (W2_arr m ρ c 11).trans (final_v (V1 m ρ) c)
theorem a_in : V4 m ρ c main_v35 = GF (V2 m ρ c main_v34_0) (V2 m ρ c main_v34_1) (V2 m ρ c main_v34_2) (V2 m ρ c main_v34_3) :=
  (W4_of m ρ c main_v35 (by decide)).trans ((W3_arr m ρ c 4).trans (Flash.final (V2 m ρ) c))

theorem even_at (r : Fin 2048) (l : Fin 1024) : V2 m ρ c main_v34_0 (ix2 r l) = if (l : ℕ) % 128 < 64 then qr m c r l * kap else (0 : EReal) := by
  rw [e_in m ρ c, ← q_at m ρ c r l]
  rfl
theorem odd_at (r : Fin 2048) (l : Fin 1024) : V2 m ρ c main_v34_1 (ix2 r l) = if (l : ℕ) % 128 < 64 then (0 : EReal) else qr m c r l * kap := by
  rw [o_in m ρ c, ← q_at m ρ c r l]
  rfl

/-- The scores the causal mask keeps are real numbers of at most 69. -/
def InRange (q k : Fin 2048 → Fin 1024 → EReal) : Prop :=
  ∀ (h : Fin 16) (r j : Fin 2048), (j : ℕ) ≤ (r : ℕ) → score (q r) (k j) h ≤ ((69 : ℝ) : EReal) ∧ ⊥ < score (q r) (k j) h

theorem attn_at (hs : InRange (qr m c) (kr m c)) (r : Fin 2048) (l : Fin 1024) :
    V4 m ρ c main_v35 (ix2 r l) = attn (qr m c r) (kr m c) (vr m c) r l := by
  rw [a_in m ρ c, ← attn_eq (qr m c r) (kr m c) (vr m c) r l (fun h j hj => hs h r j hj)]
  show att (fun j => wgt (fun d => if (l : ℕ) % 128 < 64 then V2 m ρ c main_v34_0 (ix2 r (pl l d)) else V2 m ρ c main_v34_1 (ix2 r (pl l d)))
    (fun d => V2 m ρ c main_v34_2 (ix2 j (pl l d)))) (fun j => V2 m ρ c main_v34_3 (ix2 j l)) r = _
  rw [k_in m ρ c, v_in m ρ c]
  simp only [even_at m ρ c, odd_at m ρ c, k_at m ρ c, v_at m ρ c]

theorem x_in (r : Fin 2048) (l : Fin 1024) : V4 m ρ c main_v0 (ix2 r l) = xr m c r l := by
  have e : V4 m ρ c main_v0 = V1 m ρ c main_v0 :=
    (W4_of m ρ c main_v0 (by decide)).trans ((W3_of m ρ c main_v0 (by decide)).trans (W2_of m ρ c main_v0 (by decide)))
  rw [e]
  exact x_at m ρ c r l

theorem ln2_at (l : Fin 1024) : V4 m ρ c main_v36 (ix2 0 l) = vec (m ((c : Thread nD τ).loc main_arg13)) l := by
  rw [show vec (m ((c : Thread nD τ).loc main_arg13)) l = W3 m ρ c (Proc.devRef .tc main_arg13) (ix1 l) by rw [W3_args m ρ c main_arg13 (by decide)]]
  unfold V4 W4
  after_reads_at

theorem w8_in : V4 m ρ c main_arg8 = m ((c : Thread nD τ).loc main_arg8) := W4_args m ρ c main_arg8 (by decide)
theorem w9_in : V4 m ρ c main_arg9 = m ((c : Thread nD τ).loc main_arg9) := W4_args m ρ c main_arg9 (by decide)
theorem w10_in : V4 m ρ c main_arg10 = m ((c : Thread nD τ).loc main_arg10) := W4_args m ρ c main_arg10 (by decide)
theorem w11_in : V4 m ρ c main_arg11 = m ((c : Thread nD τ).loc main_arg11) := W4_args m ρ c main_arg11 (by decide)

theorem out_at (r : Fin 2048) (l : Fin 1024) : W6 m ρ c (Proc.devRef .tc main_v38) (ix3 0 r l) = W5 m ρ c (Proc.devRef .tc main_v37) (ix2 r l) := by
  unfold W6
  after_reads_at

theorem G_at (x : Vec Ideal S2048x1024 .f32) (o : Vec Ideal S2048x1024 .bf16) (wo : Vec Ideal S1024x1024 .f32) (ln : Vec Ideal S1x1024 .f32)
    (wg wu : Vec Ideal S1024x2816 .f32) (wd : Vec Ideal S2816x1024 .f32) (r : Fin 2048) (l : Fin 1024) :
    G x o wo ln wg wu wd (ix2 r l) = ffn (fun a => x (ix2 r a) + mv (fun k => o (ix2 r k)) (fun k b => wo (ix2 k b)) a) (fun a => ln (ix2 0 a))
      (fun a b => wg (ix2 a b)) (fun a b => wu (ix2 a b)) (fun a b => wd (ix2 a b)) l := rfl

/-- The kernel's result at an index. -/
theorem result_at (hs : InRange (qr m c) (kr m c)) (r : Fin 2048) (l : Fin 1024) :
    W6 m ρ c (Proc.devRef .tc main_v38) (ix3 0 r l)
      = ffn (fun a => xr m c r a + mv (attn (qr m c r) (kr m c) (vr m c) r) (mat (m ((c : Thread nD τ).loc main_arg8))) a) (vec (m ((c : Thread nD τ).loc main_arg13)))
        (fun a b => m ((c : Thread nD τ).loc main_arg9) (ix2 a b)) (fun a b => m ((c : Thread nD τ).loc main_arg10) (ix2 a b)) (fun a b => m ((c : Thread nD τ).loc main_arg11) (ix2 a b)) l := by
  rw [out_at]
  have e : W5 m ρ c (Proc.devRef .tc main_v37) = G (V4 m ρ c main_v0) (V4 m ρ c main_v35) (V4 m ρ c main_arg8) (V4 m ρ c main_v36) (V4 m ρ c main_arg9) (V4 m ρ c main_arg10) (V4 m ρ c main_arg11) :=
    (W5_arr m ρ c 7).trans (Ffn.final (V4 m ρ) c)
  rw [e, w8_in m ρ c, w9_in m ρ c, w10_in m ρ c, w11_in m ρ c]
  rw [G_at]
  rw [show (fun k => V4 m ρ c main_v35 (ix2 r k)) = attn (qr m c r) (kr m c) (vr m c) r from funext fun k => attn_at m ρ c hs r k,
    show (fun a => V4 m ρ c main_v36 (ix2 0 a)) = vec (m ((c : Thread nD τ).loc main_arg13)) from funext fun a => ln2_at m ρ c a]
  exact congrArg (fun x => ffn x _ _ _ _ l) (funext fun a => congrArg (· + _) (x_in m ρ c r a))

end Cert.KernelIdeal.KernelValue
-- ==== Proof.RefRows.lean ====
module

public import proofs.«01_k».proof.Proof.Gen.ReferenceIdeal.Run
public import proofs.«01_k».proof.Proof.Spec
public import Idealize.ShloMosaic.Lib.StableHlo.ReadAt
public import Idealize.ShloMosaic.Lib.WordCmp

/-! The reference's intermediate arrays at an index: projections, rotary embedding, scores. -/

set_option maxRecDepth 16384

@[expose] public section

noncomputable section

open Idealize.ShloMosaic Idealize.ShloMosaic.TcCoe Idealize.SL.Sem Idealize.ShloMosaic.StableHlo

namespace Cert.ReferenceIdeal.At

open Cert.ReferenceIdeal Cert.ReferenceIdeal.Gen Cert.ReferenceIdeal.Value Cert.Rows

variable (V0 : Valuation τ sig (Elt Ideal))

/-- Row `r` of the input. -/
abbrev xr (r : Fin 2048) : Fin 1024 → EReal := fun a => V0 (Proc.devRef .tc main_arg0) (ix3 0 r a)
/-- A vector argument. -/
abbrev vec (b : FVec Ideal S1024 .f32) : Fin 1024 → EReal := fun a => b (ix1 a)
/-- A square matrix argument. -/
abbrev mat (w : FVec Ideal S1024x1024 .f32) : Fin 1024 → Fin 1024 → EReal := fun a b => w (ix2 a b)

theorem v12_at (r : Fin 2048) (l : Fin 1024) :
    res_main_v12 V0 (ix3 0 r l) = rms (xr V0 r) (vec (V0 (Proc.devRef .tc main_arg12))) l := by
  unfold res_main_v12 rms
  clean_types
  pointwise

theorem proj_at (h12 : FVec Ideal S1x2048x1024 .f32) (w : FVec Ideal S1024x1024 .f32) (b : FVec Ideal S1024 .f32) (h : Fin 16) (r : Fin 2048) (d : Fin 64) :
    transpose S1x16x2048x64 [0, 2, 1, 3] (shapeCast _ (addf (Host.dotGeneral dot_S1x2048x1024_S1024x1024_S1x2048x1024_2_0_01_1_n_n none h12 w) (broadcastInDim S1x2048x1024 ![0, 1, 2] bcast_S1x1x1024_S1x2048x1024_0_1_2 (broadcastInDim S1x1x1024 ![2] bcast_S1024_S1x1x1024_2 b))) shapeCasts_S1x2048x1024_S1x2048x16x64) transposes_S1x2048x16x64_S1x16x2048x64_0_2_1_3 (ix4 0 h r d)
      = mv (fun a => h12 (ix3 0 r a)) (mat w) (hl h d) + b (ix1 (hl h d)) := by
  unfold mv hl
  pointwise

theorem v47_at (r : Fin 2048) (k : Fin 32) :
    res_main_v47 V0 (ix3 0 r k) = ang (V0 (Proc.devRef .tc main_arg1) (ix2 0 r)) (k : ℕ) := by
  unfold res_main_v47
  clean_types
  pointwise [ang]

theorem v81_at (r : Fin 2048) (k : Fin 32) :
    res_main_v81 V0 (ix3 0 r k) = ang (V0 (Proc.devRef .tc main_arg1) (ix2 0 r)) (k : ℕ) := v47_at V0 r k

theorem v24_at (h : Fin 16) (r : Fin 2048) (d : Fin 64) :
    res_main_v24 V0 (ix4 0 h r d) = kRow (xr V0 r) (vec (V0 (Proc.devRef .tc main_arg12))) (mat (V0 (Proc.devRef .tc main_arg2))) (vec (V0 (Proc.devRef .tc main_arg3))) (hl h d) := by
  unfold res_main_v24
  refine (proj_at _ _ _ h r d).trans ?_
  unfold kRow
  rw [show (fun a => res_main_v12 V0 (ix3 0 r a)) = rms (xr V0 r) (vec (V0 (Proc.devRef .tc main_arg12))) from funext fun a => v12_at V0 r a]

theorem v30_at (h : Fin 16) (r : Fin 2048) (d : Fin 64) :
    res_main_v30 V0 (ix4 0 h r d) = kRow (xr V0 r) (vec (V0 (Proc.devRef .tc main_arg12))) (mat (V0 (Proc.devRef .tc main_arg4))) (vec (V0 (Proc.devRef .tc main_arg5))) (hl h d) := by
  unfold res_main_v30
  refine (proj_at _ _ _ h r d).trans ?_
  unfold kRow
  rw [show (fun a => res_main_v12 V0 (ix3 0 r a)) = rms (xr V0 r) (vec (V0 (Proc.devRef .tc main_arg12))) from funext fun a => v12_at V0 r a]

/-- The rotation of one element, from the two halves of its head. -/
theorem rope_cat (t1 t2 : FVec Ideal S1x16x2048x32 .f32) (c s : FVec Ideal S1x1x2048x32 .f32) (T C S : Fin 1024 → EReal) (h : Fin 16) (r : Fin 2048)
    (h1 : ∀ d : Fin 32, t1 (ix4 0 h r d) = T (hl h ⟨d, by omega⟩)) (h2 : ∀ d : Fin 32, t2 (ix4 0 h r d) = T (hl h ⟨32 + (d : ℕ), by omega⟩))
    (hc : ∀ (l : Fin 1024) (d : Fin 32), (l : ℕ) % 32 = d → c (ix4 0 0 r d) = C l) (hs : ∀ (l : Fin 1024) (d : Fin 32), (l : ℕ) % 32 = d → s (ix4 0 0 r d) = S l) (d : Fin 64) :
    concatenate S1x16x2048x64 3 [⟨S1x16x2048x32, (subf (mulf t1 (broadcastInDim S1x16x2048x32 ![0, 1, 2, 3] bcast_S1x1x2048x32_S1x16x2048x32_0_1_2_3 c)) (mulf t2 (broadcastInDim S1x16x2048x32 ![0, 1, 2, 3] bcast_S1x1x2048x32_S1x16x2048x32_0_1_2_3 s)))⟩, ⟨S1x16x2048x32, (addf (mulf t2 (broadcastInDim S1x16x2048x32 ![0, 1, 2, 3] bcast_S1x1x2048x32_S1x16x2048x32_0_1_2_3 c)) (mulf t1 (broadcastInDim S1x16x2048x32 ![0, 1, 2, 3] bcast_S1x1x2048x32_S1x16x2048x32_0_1_2_3 s)))⟩] concatenates_S1x16x2048x32_S1x16x2048x32_S1x16x2048x64_d3 (ix4 0 h r d)
      = rope T C S (hl h d) := by
  pointwise
  unfold rope rot
  by_cases hd : (d : ℕ) < 32
  · rw [dif_pos hd, if_pos (by simp only [hl]; omega), h1 ⟨d, hd⟩, h2 ⟨d, hd⟩, hc (hl h d) ⟨d, hd⟩ (by simp only [hl]; omega), hs (hl h d) ⟨d, hd⟩ (by simp only [hl]; omega), zero_sub, EReal.neg_mul, sub_eq_add_neg]
    have e : ∀ z, (⟨((hl h d : Fin 1024) + 32) % 1024, z⟩ : Fin 1024) = hl h ⟨32 + (d : ℕ), by omega⟩ := fun _ => Fin.ext (by simp only [hl]; omega)
    rw [e]
  · have hd' : (d : ℕ) - 32 < 32 := by omega
    rw [dif_neg hd]
    refine Eq.trans (show _ = t2 (ix4 0 h r ⟨(d : ℕ) - 32, hd'⟩) * c (ix4 0 0 r ⟨(d : ℕ) - 32, hd'⟩) + t1 (ix4 0 h r ⟨(d : ℕ) - 32, hd'⟩) * s (ix4 0 0 r ⟨(d : ℕ) - 32, hd'⟩) from rfl) ?_
    rw [if_neg (by simp only [hl]; omega), h1, h2, hc (hl h d) ⟨(d : ℕ) - 32, hd'⟩ (by simp only [hl]; omega), hs (hl h d) ⟨(d : ℕ) - 32, hd'⟩ (by simp only [hl]; omega)]
    have e : ∀ z, (⟨((hl h d : Fin 1024) + 992) % 1024, z⟩ : Fin 1024) = hl h ⟨(d : ℕ) - 32, by omega⟩ := fun _ => Fin.ext (by simp only [hl]; omega)
    have e2 : hl h ⟨32 + ((d : ℕ) - 32), by omega⟩ = hl h d := Fin.ext (by simp only [hl]; omega)
    rw [e, e2]

/-- The rotated query rows of the reference. -/
abbrev qr (r : Fin 2048) : Fin 1024 → EReal :=
  rope (kRow (xr V0 r) (vec (V0 (Proc.devRef .tc main_arg12))) (mat (V0 (Proc.devRef .tc main_arg2))) (vec (V0 (Proc.devRef .tc main_arg3)))) (co (V0 (Proc.devRef .tc main_arg1) (ix2 0 r))) (si (V0 (Proc.devRef .tc main_arg1) (ix2 0 r)))
/-- The rotated key rows of the reference. -/
abbrev kr (r : Fin 2048) : Fin 1024 → EReal :=
  rope (kRow (xr V0 r) (vec (V0 (Proc.devRef .tc main_arg12))) (mat (V0 (Proc.devRef .tc main_arg4))) (vec (V0 (Proc.devRef .tc main_arg5)))) (co (V0 (Proc.devRef .tc main_arg1) (ix2 0 r))) (si (V0 (Proc.devRef .tc main_arg1) (ix2 0 r)))
/-- The value rows of the reference. -/
abbrev vr (r : Fin 2048) : Fin 1024 → EReal :=
  kRow (xr V0 r) (vec (V0 (Proc.devRef .tc main_arg12))) (mat (V0 (Proc.devRef .tc main_arg6))) (vec (V0 (Proc.devRef .tc main_arg7)))

theorem co_at (r : Fin 2048) (l : Fin 1024) (d : Fin 32) (e : (l : ℕ) % 32 = d) : res_main_v49 V0 (ix4 0 0 r d) = co (V0 (Proc.devRef .tc main_arg1) (ix2 0 r)) l := by
  unfold res_main_v49 co
  rw [e, ← v47_at V0 r d]
  clean_types
  pointwise

theorem si_at (r : Fin 2048) (l : Fin 1024) (d : Fin 32) (e : (l : ℕ) % 32 = d) : res_main_v51 V0 (ix4 0 0 r d) = si (V0 (Proc.devRef .tc main_arg1) (ix2 0 r)) l := by
  unfold res_main_v51 si
  rw [e, ← v47_at V0 r d]
  clean_types
  pointwise

theorem v52_at (h : Fin 16) (r : Fin 2048) (d : Fin 32) : res_main_v52 V0 (ix4 0 h r d) = res_main_v24 V0 (ix4 0 h r ⟨d, by omega⟩) := by
  unfold res_main_v52
  clean_types
  pointwise

theorem v53_at (h : Fin 16) (r : Fin 2048) (d : Fin 32) : res_main_v53 V0 (ix4 0 h r d) = res_main_v24 V0 (ix4 0 h r ⟨32 + (d : ℕ), by omega⟩) := by
  unfold res_main_v53
  clean_types
  pointwise

theorem v86_at (h : Fin 16) (r : Fin 2048) (d : Fin 32) : res_main_v86 V0 (ix4 0 h r d) = res_main_v30 V0 (ix4 0 h r ⟨d, by omega⟩) := by
  unfold res_main_v86
  clean_types
  pointwise

theorem v87_at (h : Fin 16) (r : Fin 2048) (d : Fin 32) : res_main_v87 V0 (ix4 0 h r d) = res_main_v30 V0 (ix4 0 h r ⟨32 + (d : ℕ), by omega⟩) := by
  unfold res_main_v87
  clean_types
  pointwise

end Cert.ReferenceIdeal.At
-- ==== Proof.RefValue.lean ====
module

public import proofs.«01_k».proof.Proof.RefRows

/-! The reference's attention and feed-forward arrays at an index. -/

set_option maxRecDepth 16384

@[expose] public section

noncomputable section

open Idealize.ShloMosaic Idealize.ShloMosaic.TcCoe Idealize.SL.Sem Idealize.ShloMosaic.StableHlo

namespace Cert.ReferenceIdeal.At

open Cert.ReferenceIdeal Cert.ReferenceIdeal.Gen Cert.ReferenceIdeal.Value Cert.Rows

variable (V0 : Valuation τ sig (Elt Ideal))

theorem bot_word : Ideal.ofBits .f32 0xFF800000#32 = ⊥ := by simp [Ideal.ofBits, Ideal.ieee]

theorem mask_at (A B : FVec Ideal S1x16x2048x64 .f32) (h : Fin 16) (r j : Fin 2048) :
    select (broadcastInDim S1x16x2048x2048 ![0, 1, 2, 3] bcast_S1x1x2048x2048_S1x16x2048x2048_0_1_2_3 (broadcastInDim S1x1x2048x2048 ![2, 3] bcast_S2048x2048_S1x1x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))) (Host.divf (Host.dotGeneral dot_S1x16x2048x64_S1x16x2048x64_S1x16x2048x2048_3_3_2_2_01_01 none A B) (broadcastInDim S1x16x2048x2048 ![] bcast_S_S1x16x2048x2048 (constant S_ .f32 0x41000000#32))) (broadcastInDim S1x16x2048x2048 ![] bcast_S_S1x16x2048x2048 (id (constant S_ .f32 0xFF800000#32))) (ix4 0 h r j)
      = if (j : ℕ) ≤ (r : ℕ) then Ideal.div (∑ d, A (ix4 0 h r d) * B (ix4 0 h j d)) (Ideal.ofBits .f32 0x41000000#32) else ⊥ := by
  pointwise
  rw [show IntOp.addi (BitVec.ofNat 32 (r : ℕ)) 0#32 = BitVec.ofNat 32 (r : ℕ) from BitVec.add_zero _]
  word_cmp
  rw [← bot_word]
  by_cases hj : (j : ℕ) ≤ (r : ℕ)
  · rw [if_pos hj]; simp only [hj]; rfl
  · rw [if_neg hj]; simp only [hj]; rfl

theorem v105_at (h : Fin 16) (r j : Fin 2048) :
    res_main_v105 V0 (ix4 0 h r j) = masked (fun j => score (qr V0 r) (kr V0 j) h) r j := by
  unfold res_main_v105
  refine (mask_at _ _ h r j).trans ?_
  unfold masked score hdot
  refine if_congr Iff.rfl (congrArg (Ideal.div · _) (Finset.sum_congr rfl fun d _ => Ideal.mul_congr ?_ ?_)) rfl
  · exact rope_cat _ _ _ _ _ _ _ h r (fun d => (v52_at V0 h r d).trans (v24_at V0 h r _)) (fun d => (v53_at V0 h r d).trans (v24_at V0 h r _)) (co_at V0 r) (si_at V0 r) d
  · exact rope_cat _ _ _ _ _ _ _ h j (fun d => (v86_at V0 h j d).trans (v30_at V0 h j _)) (fun d => (v87_at V0 h j d).trans (v30_at V0 h j _)) (co_at V0 j) (si_at V0 j) d

theorem max_gen {a b c d : ℕ} (u : FVec Ideal ⟨4, ![a, b, c, d]⟩ .f32) (h : (⟨4, ![a, b, c, d]⟩ : Shape).ReducesTo [3] ⟨3, ![a, b, c]⟩) (hu : 0 < (⟨0, ![]⟩ : Shape).numel)
    (i : Fin a) (j : Fin b) (k : Fin c) :
    Host.reduce FloatOps.maximumf u (constant (⟨0, ![]⟩ : Shape) .f32 0xFF800000#32) h hu (ix3 i j k) = Finset.univ.fold max ⊥ fun l => u (ix4 i j k l) := by
  pointwise
  rw [bot_word]

theorem exp_less (u : FVec Ideal S1x16x2048x2048 .f32) (M : FVec Ideal S1x16x2048 .f32) (h : Fin 16) (r j : Fin 2048) :
    Host.exp (subf u (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) M)))) (ix4 0 h r j) = Ideal.exp (u (ix4 0 h r j) - max ⊥ (M (ix3 0 h r))) := by
  pointwise
  rw [bot_word]

theorem expo_at (u : FVec Ideal S1x16x2048x2048 .f32) (h : Fin 16) (r j : Fin 2048) :
    Host.exp (subf u (broadcastInDim S1x16x2048x2048 ![0, 1, 2, 3] bcast_S1x16x2048x1_S1x16x2048x2048_0_1_2_3 (broadcastInDim S1x16x2048x1 ![0, 1, 2] bcast_S1x16x2048_S1x16x2048x1_0_1_2 (maximumf (broadcastInDim S1x16x2048 ![] bcast_S_S1x16x2048 (constant S_ .f32 0xFF800000#32)) (Host.reduce FloatOps.maximumf u (constant S_ .f32 0xFF800000#32) reducesTo_S1x16x2048x2048_S1x16x2048_d3 h_S_))))) (ix4 0 h r j) = expo (fun j => u (ix4 0 h r j)) j := by
  refine (exp_less u _ h r j).trans ?_
  unfold expo
  rw [max_gen]

theorem v112_at (h : Fin 16) (r j : Fin 2048) :
    res_main_v112 V0 (ix4 0 h r j) = expo (masked (fun j => score (qr V0 r) (kr V0 j) h) r) j := by
  have e : masked (fun j => score (qr V0 r) (kr V0 j) h) r = fun j => res_main_v105 V0 (ix4 0 h r j) := funext fun j => (v105_at V0 h r j).symm
  rw [e]
  unfold res_main_v112
  exact expo_at _ h r j

theorem v121_at (r : Fin 2048) (l : Fin 1024) :
    res_main_v121 V0 (ix3 0 r l) = xr V0 r l + mv (attn (qr V0 r) (kr V0) (vr V0) r) (mat (V0 (Proc.devRef .tc main_arg8))) l := by
  unfold res_main_v121
  clean_types
  pointwise
  unfold mv attn soft
  refine Ideal.add_congr rfl (Finset.sum_congr rfl fun a _ => Ideal.mul_congr (Finset.sum_congr rfl fun j _ => Ideal.mul_congr ?_ ?_) rfl)
  · rw [v112_at]
    exact congrArg _ (Finset.sum_congr rfl fun k _ => v112_at V0 _ r k)
  · show _ = kRow _ _ _ _ a
    unfold kRow mv
    exact Ideal.add_congr (Finset.sum_congr rfl fun k _ => Ideal.mul_congr (v12_at V0 j k) rfl) rfl

theorem v134_at (r : Fin 2048) (l : Fin 1024) :
    res_main_v134 V0 (ix3 0 r l) = rms (fun a => res_main_v121 V0 (ix3 0 r a)) (vec (V0 (Proc.devRef .tc main_arg13))) l := by
  unfold res_main_v134 rms
  clean_types
  pointwise

/-- The reference's last operations, over the arrays they read. -/
abbrev mlp (x h2 : FVec Ideal S1x2048x1024 .f32) (g : FVec Ideal S1x2048x2816 .f32) (wu : FVec Ideal S1024x2816 .f32) (wd : FVec Ideal S2816x1024 .f32) : FVec Ideal S1x2048x1024 .f32 :=
  addf x (Host.dotGeneral dot_S1x2048x2816_S2816x1024_S1x2048x1024_2_0_01_1_n_n none (mulf (mulf g (Host.divf (broadcastInDim S1x2048x2816 ![] bcast_S_S1x2048x2816 (constant S_ .f32 0x3F800000#32)) (addf (broadcastInDim S1x2048x2816 ![] bcast_S_S1x2048x2816 (constant S_ .f32 0x3F800000#32)) (Host.exp (Host.negf g))))) (Host.dotGeneral dot_S1x2048x1024_S1024x2816_S1x2048x2816_2_0_01_1_n_n none h2 wu)) wd)

theorem mlp_at (x h2 : FVec Ideal S1x2048x1024 .f32) (g : FVec Ideal S1x2048x2816 .f32) (wu : FVec Ideal S1024x2816 .f32) (wd : FVec Ideal S2816x1024 .f32) (r : Fin 2048) (l : Fin 1024) :
    addf x (Host.dotGeneral dot_S1x2048x2816_S2816x1024_S1x2048x1024_2_0_01_1_n_n none (mulf (mulf g (Host.divf (broadcastInDim S1x2048x2816 ![] bcast_S_S1x2048x2816 (constant S_ .f32 0x3F800000#32)) (addf (broadcastInDim S1x2048x2816 ![] bcast_S_S1x2048x2816 (constant S_ .f32 0x3F800000#32)) (Host.exp (Host.negf g))))) (Host.dotGeneral dot_S1x2048x1024_S1024x2816_S1x2048x2816_2_0_01_1_n_n none h2 wu)) wd) (ix3 0 r l)
      = x (ix3 0 r l) + ∑ k, (g (ix3 0 r k) * Ideal.logistic (g (ix3 0 r k)) * mv (fun a => h2 (ix3 0 r a)) (fun a b => wu (ix2 a b)) k) * wd (ix2 k l) := by
  unfold mv Ideal.logistic
  pointwise

theorem v135_at (r : Fin 2048) (k : Fin 2816) :
    res_main_v135 V0 (ix3 0 r k) = mv (fun a => res_main_v134 V0 (ix3 0 r a)) (fun a b => V0 (Proc.devRef .tc main_arg9) (ix2 a b)) k := by
  unfold res_main_v135 mv
  clean_types
  pointwise

theorem result_at (r : Fin 2048) (l : Fin 1024) :
    mlp (res_main_v121 V0) (res_main_v134 V0) (res_main_v135 V0) (V0 (Proc.devRef .tc main_arg10)) (V0 (Proc.devRef .tc main_arg11)) (ix3 0 r l)
      = ffn (fun a => xr V0 r a + mv (attn (qr V0 r) (kr V0) (vr V0) r) (mat (V0 (Proc.devRef .tc main_arg8))) a) (vec (V0 (Proc.devRef .tc main_arg13)))
        (fun a b => V0 (Proc.devRef .tc main_arg9) (ix2 a b)) (fun a b => V0 (Proc.devRef .tc main_arg10) (ix2 a b)) (fun a b => V0 (Proc.devRef .tc main_arg11) (ix2 a b)) l := by
  refine (mlp_at _ _ _ _ _ r l).trans ?_
  have e : (fun a => xr V0 r a + mv (attn (qr V0 r) (kr V0) (vr V0) r) (mat (V0 (Proc.devRef .tc main_arg8))) a) = fun a => res_main_v121 V0 (ix3 0 r a) := funext fun a => (v121_at V0 r a).symm
  rw [e]
  have e2 : rms (fun a => res_main_v121 V0 (ix3 0 r a)) (vec (V0 (Proc.devRef .tc main_arg13))) = fun a => res_main_v134 V0 (ix3 0 r a) := funext fun a => (v134_at V0 r a).symm
  unfold ffn
  rw [e2]
  exact Ideal.add_congr rfl (Finset.sum_congr rfl fun k _ => by rw [v135_at])

end Cert.ReferenceIdeal.At
-- ==== Proof.Pre.lean ====
module

public import proofs.«01_k».proof.Proof.RefRows
public import proofs.«01_k».proof.Proof.Gen.Pre_scores_in_range

/-! The precondition at an index: it speaks of the reference's scores. -/

set_option maxRecDepth 16384

@[expose] public section

noncomputable section

open Idealize.ShloMosaic Idealize.ShloMosaic.TcCoe Idealize.SL.Sem Idealize.ShloMosaic.StableHlo

namespace Cert.ReferenceIdeal.At

open Cert.ReferenceIdeal Cert.ReferenceIdeal.Gen Cert.ReferenceIdeal.Value Cert.Rows

variable (V0 : Valuation τ sig (Elt Ideal))

/-- The scores before the mask, over the halves of the queries and keys and the two pairs of trigonometric tables. -/
def dots (q1 q2 k1 k2 : FVec Ideal S1x16x2048x32 .f32) (c d c' d' : FVec Ideal S1x1x2048x32 .f32) : FVec Ideal S1x16x2048x2048 .f32 :=
  (Host.divf (Host.dotGeneral dot_S1x16x2048x64_S1x16x2048x64_S1x16x2048x2048_3_3_2_2_01_01 none (concatenate S1x16x2048x64 3 [⟨S1x16x2048x32, (subf (mulf q1 (broadcastInDim S1x16x2048x32 ![0, 1, 2, 3] bcast_S1x1x2048x32_S1x16x2048x32_0_1_2_3 c)) (mulf q2 (broadcastInDim S1x16x2048x32 ![0, 1, 2, 3] bcast_S1x1x2048x32_S1x16x2048x32_0_1_2_3 d)))⟩, ⟨S1x16x2048x32, (addf (mulf q2 (broadcastInDim S1x16x2048x32 ![0, 1, 2, 3] bcast_S1x1x2048x32_S1x16x2048x32_0_1_2_3 c)) (mulf q1 (broadcastInDim S1x16x2048x32 ![0, 1, 2, 3] bcast_S1x1x2048x32_S1x16x2048x32_0_1_2_3 d)))⟩] concatenates_S1x16x2048x32_S1x16x2048x32_S1x16x2048x64_d3) (concatenate S1x16x2048x64 3 [⟨S1x16x2048x32, (subf (mulf k1 (broadcastInDim S1x16x2048x32 ![0, 1, 2, 3] bcast_S1x1x2048x32_S1x16x2048x32_0_1_2_3 c')) (mulf k2 (broadcastInDim S1x16x2048x32 ![0, 1, 2, 3] bcast_S1x1x2048x32_S1x16x2048x32_0_1_2_3 d')))⟩, ⟨S1x16x2048x32, (addf (mulf k2 (broadcastInDim S1x16x2048x32 ![0, 1, 2, 3] bcast_S1x1x2048x32_S1x16x2048x32_0_1_2_3 c')) (mulf k1 (broadcastInDim S1x16x2048x32 ![0, 1, 2, 3] bcast_S1x1x2048x32_S1x16x2048x32_0_1_2_3 d')))⟩] concatenates_S1x16x2048x32_S1x16x2048x32_S1x16x2048x64_d3)) (broadcastInDim S1x16x2048x2048 ![] bcast_S_S1x16x2048x2048 (constant S_ .f32 0x41000000#32)))

/-- The reference's scores before the mask. -/
def scores : FVec Ideal S1x16x2048x2048 .f32 :=
  dots (res_main_v52 V0) (res_main_v53 V0) (res_main_v86 V0) (res_main_v87 V0) (res_main_v49 V0) (res_main_v51 V0) (res_main_v83 V0) (res_main_v85 V0)

theorem div_at (A B : FVec Ideal S1x16x2048x64 .f32) (h : Fin 16) (r j : Fin 2048) :
    (Host.divf (Host.dotGeneral dot_S1x16x2048x64_S1x16x2048x64_S1x16x2048x2048_3_3_2_2_01_01 none A B) (broadcastInDim S1x16x2048x2048 ![] bcast_S_S1x16x2048x2048 (constant S_ .f32 0x41000000#32))) (ix4 0 h r j)
      = Ideal.div (∑ d, A (ix4 0 h r d) * B (ix4 0 h j d)) (Ideal.ofBits .f32 0x41000000#32) := by
  pointwise

theorem scores_at (h : Fin 16) (r j : Fin 2048) : scores V0 (ix4 0 h r j) = score (qr V0 r) (kr V0 j) h := by
  unfold scores dots
  refine (div_at _ _ h r j).trans ?_
  unfold score hdot
  refine congrArg (Ideal.div · _) (Finset.sum_congr rfl fun d _ => Ideal.mul_congr ?_ ?_)
  · exact rope_cat _ _ _ _ _ _ _ h r (fun d => (v52_at V0 h r d).trans (v24_at V0 h r _)) (fun d => (v53_at V0 h r d).trans (v24_at V0 h r _)) (co_at V0 r) (si_at V0 r) d
  · exact rope_cat _ _ _ _ _ _ _ h j (fun d => (v86_at V0 h j d).trans (v30_at V0 h j _)) (fun d => (v87_at V0 h j d).trans (v30_at V0 h j _)) (co_at V0 j) (si_at V0 j) d

/-- The precondition's mask over the scores. -/
abbrev inRange (s : FVec Ideal S1x16x2048x2048 .f32) : IVec S1x16x2048x2048 1 :=
  ori (cmpi .slt (iotaInDim S1x16x2048x2048 32 2) (iotaInDim S1x16x2048x2048 32 3))
    (andi (cmpf .ole s (broadcastInDim S1x16x2048x2048 ![] bcast_S_S1x16x2048x2048 (constant S_ .f32 0x428A0000#32)))
      (cmpf .ogt s (broadcastInDim S1x16x2048x2048 ![] bcast_S_S1x16x2048x2048 (constant S_ .f32 0xFF800000#32))))

theorem fn_eq : Cert.Pre_scores_in_range.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) = inRange (scores V0) := rfl

theorem range_at (s : FVec Ideal S1x16x2048x2048 .f32) (h : Fin 16) (r j : Fin 2048) (e : inRange s (ix4 0 h r j) = 1#1) (hj : (j : ℕ) ≤ (r : ℕ)) :
    s (ix4 0 h r j) ≤ ((69 : ℝ) : EReal) ∧ ⊥ < s (ix4 0 h r j) := by
  revert e
  pointwise
  intro e
  rw [show IntOp.cmpi CmpIPredicate.slt (BitVec.ofNat 32 (r : ℕ)) (BitVec.ofNat 32 (j : ℕ)) = 0#1 by word_cmp] at e
  have e69 : Ideal.ofBits FTy.f32 1116340224#32 = ((69 : ℝ) : EReal) := by
    simp [Ideal.ofBits, Ideal.ieee, -EReal.coe_mul]; norm_num
  rw [e69] at e
  have ebot : Ideal.ofBits .f32 0xFF800000#32 = ⊥ := by simp [Ideal.ofBits, Ideal.ieee]
  rw [ebot] at e
  by_cases h1 : s (ix4 0 h r j) ≤ ((69 : ℝ) : EReal)
  · by_cases h2 : ⊥ < s (ix4 0 h r j)
    · exact ⟨h1, h2⟩
    · rw [decide_eq_true h1, decide_eq_false h2] at e; exact absurd e (by decide)
  · rw [decide_eq_false h1] at e
    exact absurd e (by cases decide (⊥ < s (ix4 0 h r j)) <;> decide)

end Cert.ReferenceIdeal.At
-- ==== Proof.Algebraic.lean ====
module

public import proofs.«01_k».proof.Proof.Run
public import proofs.«01_k».proof.Proof.KernelValue
public import proofs.«01_k».proof.Proof.RefValue
public import proofs.«01_k».proof.Proof.Pre

/-! The kernel's and the reference's results are one function of the arguments. -/

set_option maxRecDepth 16384

@[expose] public section

noncomputable section

open Idealize.ShloMosaic Idealize.ShloMosaic.TcCoe Idealize.SL.Sem

namespace Cert.Algebraic

open Cert.Rows Cert.KernelIdeal

/-- Row `r` after the first norm, a projection with its bias, and the rotation by the row's position. -/
def turned (x : FVec Ideal S1x2048x1024 .f32) (p : IVec S1x2048 32) (g : FVec Ideal S1024 .f32) (w : FVec Ideal S1024x1024 .f32) (b : FVec Ideal S1024 .f32) (r : Fin 2048) : Fin 1024 → EReal :=
  rope (kRow (fun a => x (ix3 0 r a)) (fun a => g (ix1 a)) (fun a b => w (ix2 a b)) (fun a => b (ix1 a))) (co (p (ix2 0 r))) (si (p (ix2 0 r)))

/-- Row `r` after the first norm and a projection with its bias. -/
def plain (x : FVec Ideal S1x2048x1024 .f32) (g : FVec Ideal S1024 .f32) (w : FVec Ideal S1024x1024 .f32) (b : FVec Ideal S1024 .f32) (r : Fin 2048) : Fin 1024 → EReal :=
  kRow (fun a => x (ix3 0 r a)) (fun a => g (ix1 a)) (fun a b => w (ix2 a b)) (fun a => b (ix1 a))

/-- The whole block: the result at row `r`, lane `l`, of the fourteen arguments. -/
def block (x : FVec Ideal S1x2048x1024 .f32) (p : IVec S1x2048 32) (wq : FVec Ideal S1024x1024 .f32) (bq : FVec Ideal S1024 .f32) (wk : FVec Ideal S1024x1024 .f32) (bk : FVec Ideal S1024 .f32) (wv : FVec Ideal S1024x1024 .f32) (bv : FVec Ideal S1024 .f32) (wo : FVec Ideal S1024x1024 .f32)
    (wg : FVec Ideal S1024x2816 .f32) (wu : FVec Ideal S1024x2816 .f32) (wd : FVec Ideal S2816x1024 .f32) (g1 g2 : FVec Ideal S1024 .f32) (r : Fin 2048) (l : Fin 1024) : EReal :=
  ffn (fun a => x (ix3 0 r a) + mv (attn (turned x p g1 wq bq r) (turned x p g1 wk bk) (plain x g1 wv bv) r) (fun a b => wo (ix2 a b)) a) (fun a => g2 (ix1 a))
    (fun a b => wg (ix2 a b)) (fun a b => wu (ix2 a b)) (fun a b => wd (ix2 a b)) l

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ) (c : Dev KernelIdeal.nD)

/-- The kernel's result. -/
theorem kernel_at (hs : KernelValue.InRange (KernelValue.qr m c) (KernelValue.kr m c)) (r : Fin 2048) (l : Fin 1024) :
    KernelIdeal.Gen.W6 m ρ c (Proc.devRef .tc main_v38) (ix3 0 r l)
      = block (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
        (m (c.tc.loc main_arg9)) (m (c.tc.loc main_arg10)) (m (c.tc.loc main_arg11)) (m (c.tc.loc main_arg12)) (m (c.tc.loc main_arg13)) r l :=
  KernelValue.result_at m ρ c hs r l

/-- The reference's result. -/
theorem reference_at (V : Valuation ReferenceIdeal.τ ReferenceIdeal.sig (Elt Ideal)) (r : Fin 2048) (l : Fin 1024) :
    ReferenceIdeal.At.mlp (ReferenceIdeal.Value.res_main_v121 V) (ReferenceIdeal.Value.res_main_v134 V) (ReferenceIdeal.Value.res_main_v135 V) (V (Proc.devRef .tc ReferenceIdeal.main_arg10)) (V (Proc.devRef .tc ReferenceIdeal.main_arg11)) (ix3 0 r l)
      = block (V (Proc.devRef .tc ReferenceIdeal.main_arg0)) (V (Proc.devRef .tc ReferenceIdeal.main_arg1)) (V (Proc.devRef .tc ReferenceIdeal.main_arg2)) (V (Proc.devRef .tc ReferenceIdeal.main_arg3)) (V (Proc.devRef .tc ReferenceIdeal.main_arg4)) (V (Proc.devRef .tc ReferenceIdeal.main_arg5)) (V (Proc.devRef .tc ReferenceIdeal.main_arg6)) (V (Proc.devRef .tc ReferenceIdeal.main_arg7)) (V (Proc.devRef .tc ReferenceIdeal.main_arg8))
        (V (Proc.devRef .tc ReferenceIdeal.main_arg9)) (V (Proc.devRef .tc ReferenceIdeal.main_arg10)) (V (Proc.devRef .tc ReferenceIdeal.main_arg11)) (V (Proc.devRef .tc ReferenceIdeal.main_arg12)) (V (Proc.devRef .tc ReferenceIdeal.main_arg13)) r l :=
  ReferenceIdeal.At.result_at V r l

/-- The precondition on the arguments keeps every score the kernel keeps in range. -/
theorem range_of (x : FVec Ideal S1x2048x1024 .f32) (p : IVec S1x2048 32) (wq : FVec Ideal S1024x1024 .f32) (bq : FVec Ideal S1024 .f32) (wk : FVec Ideal S1024x1024 .f32) (bk : FVec Ideal S1024 .f32) (g1 : FVec Ideal S1024 .f32)
    (V : Valuation ReferenceIdeal.τ ReferenceIdeal.sig (Elt Ideal))
    (e0 : V (Proc.devRef .tc ReferenceIdeal.main_arg0) = x) (e1 : V (Proc.devRef .tc ReferenceIdeal.main_arg1) = p) (e2 : V (Proc.devRef .tc ReferenceIdeal.main_arg2) = wq) (e3 : V (Proc.devRef .tc ReferenceIdeal.main_arg3) = bq)
    (e4 : V (Proc.devRef .tc ReferenceIdeal.main_arg4) = wk) (e5 : V (Proc.devRef .tc ReferenceIdeal.main_arg5) = bk) (e12 : V (Proc.devRef .tc ReferenceIdeal.main_arg12) = g1)
    (h : ReferenceIdeal.At.inRange (ReferenceIdeal.At.scores V) = fun _ => 1#1) :
    KernelValue.InRange (turned x p g1 wq bq) (turned x p g1 wk bk) := by
  subst e0 e1 e2 e3 e4 e5 e12
  intro a r j hj
  have hr := ReferenceIdeal.At.range_at _ a r j (congrFun h _) hj
  rw [ReferenceIdeal.At.scores_at] at hr
  exact hr

/-- From agreeing arguments in the precondition's range, the reference's result is the kernel's. -/
theorem same (e0 : m' ((c.tc : Thread ReferenceIdeal.nD ReferenceIdeal.τ).loc ReferenceIdeal.main_arg0) = m ((c.tc : Thread KernelIdeal.nD KernelIdeal.τ).loc main_arg0)) (e1 : m' ((c.tc : Thread ReferenceIdeal.nD ReferenceIdeal.τ).loc ReferenceIdeal.main_arg1) = m ((c.tc : Thread KernelIdeal.nD KernelIdeal.τ).loc main_arg1)) (e2 : m' ((c.tc : Thread ReferenceIdeal.nD ReferenceIdeal.τ).loc ReferenceIdeal.main_arg2) = m ((c.tc : Thread KernelIdeal.nD KernelIdeal.τ).loc main_arg2)) (e3 : m' ((c.tc : Thread ReferenceIdeal.nD ReferenceIdeal.τ).loc ReferenceIdeal.main_arg3) = m ((c.tc : Thread KernelIdeal.nD KernelIdeal.τ).loc main_arg3)) (e4 : m' ((c.tc : Thread ReferenceIdeal.nD ReferenceIdeal.τ).loc ReferenceIdeal.main_arg4) = m ((c.tc : Thread KernelIdeal.nD KernelIdeal.τ).loc main_arg4)) (e5 : m' ((c.tc : Thread ReferenceIdeal.nD ReferenceIdeal.τ).loc ReferenceIdeal.main_arg5) = m ((c.tc : Thread KernelIdeal.nD KernelIdeal.τ).loc main_arg5)) (e6 : m' ((c.tc : Thread ReferenceIdeal.nD ReferenceIdeal.τ).loc ReferenceIdeal.main_arg6) = m ((c.tc : Thread KernelIdeal.nD KernelIdeal.τ).loc main_arg6)) (e7 : m' ((c.tc : Thread ReferenceIdeal.nD ReferenceIdeal.τ).loc ReferenceIdeal.main_arg7) = m ((c.tc : Thread KernelIdeal.nD KernelIdeal.τ).loc main_arg7)) (e8 : m' ((c.tc : Thread ReferenceIdeal.nD ReferenceIdeal.τ).loc ReferenceIdeal.main_arg8) = m ((c.tc : Thread KernelIdeal.nD KernelIdeal.τ).loc main_arg8)) (e9 : m' ((c.tc : Thread ReferenceIdeal.nD ReferenceIdeal.τ).loc ReferenceIdeal.main_arg9) = m ((c.tc : Thread KernelIdeal.nD KernelIdeal.τ).loc main_arg9)) (e10 : m' ((c.tc : Thread ReferenceIdeal.nD ReferenceIdeal.τ).loc ReferenceIdeal.main_arg10) = m ((c.tc : Thread KernelIdeal.nD KernelIdeal.τ).loc main_arg10)) (e11 : m' ((c.tc : Thread ReferenceIdeal.nD ReferenceIdeal.τ).loc ReferenceIdeal.main_arg11) = m ((c.tc : Thread KernelIdeal.nD KernelIdeal.τ).loc main_arg11)) (e12 : m' ((c.tc : Thread ReferenceIdeal.nD ReferenceIdeal.τ).loc ReferenceIdeal.main_arg12) = m ((c.tc : Thread KernelIdeal.nD KernelIdeal.τ).loc main_arg12)) (e13 : m' ((c.tc : Thread ReferenceIdeal.nD ReferenceIdeal.τ).loc ReferenceIdeal.main_arg13) = m ((c.tc : Thread KernelIdeal.nD KernelIdeal.τ).loc main_arg13))
    (h : Cert.Pre_scores_in_range.fn (F := Ideal) (m ((c.tc : Thread KernelIdeal.nD KernelIdeal.τ).loc main_arg0)) (m ((c.tc : Thread KernelIdeal.nD KernelIdeal.τ).loc main_arg1)) (m ((c.tc : Thread KernelIdeal.nD KernelIdeal.τ).loc main_arg2)) (m ((c.tc : Thread KernelIdeal.nD KernelIdeal.τ).loc main_arg3)) (m ((c.tc : Thread KernelIdeal.nD KernelIdeal.τ).loc main_arg4)) (m ((c.tc : Thread KernelIdeal.nD KernelIdeal.τ).loc main_arg5)) (m ((c.tc : Thread KernelIdeal.nD KernelIdeal.τ).loc main_arg6)) (m ((c.tc : Thread KernelIdeal.nD KernelIdeal.τ).loc main_arg7)) (m ((c.tc : Thread KernelIdeal.nD KernelIdeal.τ).loc main_arg8)) (m ((c.tc : Thread KernelIdeal.nD KernelIdeal.τ).loc main_arg9)) (m ((c.tc : Thread KernelIdeal.nD KernelIdeal.τ).loc main_arg10)) (m ((c.tc : Thread KernelIdeal.nD KernelIdeal.τ).loc main_arg11)) (m ((c.tc : Thread KernelIdeal.nD KernelIdeal.τ).loc main_arg12)) (m ((c.tc : Thread KernelIdeal.nD KernelIdeal.τ).loc main_arg13)) = fun _ => 1#1) :
    ReferenceIdeal.At.mlp (ReferenceIdeal.Value.res_main_v121 (StableHlo.launchContents m' c)) (ReferenceIdeal.Value.res_main_v134 (StableHlo.launchContents m' c)) (ReferenceIdeal.Value.res_main_v135 (StableHlo.launchContents m' c)) (StableHlo.launchContents m' c (Proc.devRef .tc ReferenceIdeal.main_arg10)) (StableHlo.launchContents m' c (Proc.devRef .tc ReferenceIdeal.main_arg11))
      = KernelIdeal.Gen.W6 m ρ c (Proc.devRef .tc main_v38) := by
  rw [← e0, ← e1, ← e2, ← e3, ← e4, ← e5, ← e6, ← e7, ← e8, ← e9, ← e10, ← e11, ← e12, ← e13] at h
  have hs : KernelValue.InRange (KernelValue.qr m c) (KernelValue.kr m c) :=
    range_of _ _ _ _ _ _ _ (StableHlo.launchContents m' c) e0 e1 e2 e3 e4 e5 e12 ((ReferenceIdeal.At.fn_eq _).symm.trans h)
  refine funext fun (y : S1x2048x1024.Idx) => ?_
  obtain ⟨u, r, l, rfl⟩ : ∃ (u : Fin 1) (r : Fin 2048) (l : Fin 1024), y = ix3 u r l := ⟨y 0, y 1, y 2, eq_ix3 y⟩
  obtain rfl : u = 0 := Subsingleton.elim _ _
  refine (reference_at (StableHlo.launchContents m' c) r l).trans ?_
  refine Eq.trans ?_ (kernel_at m ρ c hs r l).symm
  show block (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg8)) (m' (c.tc.loc ReferenceIdeal.main_arg9)) (m' (c.tc.loc ReferenceIdeal.main_arg10)) (m' (c.tc.loc ReferenceIdeal.main_arg11)) (m' (c.tc.loc ReferenceIdeal.main_arg12)) (m' (c.tc.loc ReferenceIdeal.main_arg13)) r l = _
  rw [e0, e1, e2, e3, e4, e5, e6, e7, e8, e9, e10, e11, e12, e13]

end Cert.Algebraic
-- ==== Proof.lean ====
module

public import proofs.«01_k».proof.Defs
public import proofs.«01_k».proof.Proof.Gen.Kernel.Frame
public import proofs.«01_k».proof.Proof.Gen.KernelIdeal.Frame
public import proofs.«01_k».proof.Proof.Algebraic
public import Idealize.ShloMosaic.Lib.Quiescent

/-! The proof of `Cert.Claim`: the three frames, the named constant, and the equality of the kernel's and the
    reference's results. -/

@[expose] public section

noncomputable section

namespace Cert.Proof

open Idealize.ShloMosaic Idealize.SL.Sem

/-- The reference runs to the end, leaves its arguments unchanged, and its signature has no counter to leave nonzero. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems rfl _⟩)
    (Cert.ReferenceIdeal.Value.run m g)

/-- The kernel and the reference end with equal results. -/
theorem algebraic : Cert.algebraic_KernelIdeal_ReferenceIdeal_pre_scores_in_range (hKernelIdeal := Cert.KernelIdeal.Gen.facts)
    (hReferenceIdeal := Cert.ReferenceIdeal.Gen.facts) (hPre_scores_in_range := Cert.Pre_scores_in_range.Gen.facts) :=
  fun m g m' g' hp ha => ⟨fun c => Cert.KernelIdeal.Gen.W6 m g c (Proc.devRef .tc Cert.KernelIdeal.main_v38),
    Cert.KernelIdeal.Run.run m g,
    (θ_run Cert.ReferenceIdeal.defs _ _).mono
      (fun r h c => ⟨(h c).1.trans (by
        obtain ⟨e0, e1, e2, e3, e4, e5, e6, e7, e8, e9, e10, e11, e12, e13⟩ := ha c
        exact Cert.Algebraic.same m g m' c e0 e1 e2 e3 e4 e5 e6 e7 e8 e9 e10 e11 e12 e13 (hp c)), (h c).2⟩)
      (Cert.ReferenceIdeal.Value.run m' g')⟩

theorem claim : Cert.Claim :=
  ⟨Cert.Kernel.Gen.facts, Cert.KernelIdeal.Gen.facts, Cert.ReferenceIdeal.Gen.facts, Cert.Pre_scores_in_range.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    IdealRules.named_const.statement _ _ _ _ _ rfl,
    algebraic⟩

end Cert.Proof

end
